-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x64 : Shape := ⟨2, ![1024, 64]⟩
abbrev S28x64x1024 : Shape := ⟨3, ![28, 64, 1024]⟩
abbrev S3x2 : Shape := ⟨2, ![3, 2]⟩
abbrev S2x7x2 : Shape := ⟨3, ![2, 7, 2]⟩
abbrev S2x7x1 : Shape := ⟨3, ![2, 7, 1]⟩
abbrev S_ : Shape := ⟨0, ![]⟩
abbrev S1x64x1024 : Shape := ⟨3, ![1, 64, 1024]⟩
abbrev S1x1 : Shape := ⟨2, ![1, 1]⟩
abbrev S1x32x1024 : Shape := ⟨3, ![1, 32, 1024]⟩
abbrev S32x1024 : Shape := ⟨2, ![32, 1024]⟩
abbrev S1x1x1 : Shape := ⟨3, ![1, 1, 1]⟩
abbrev S64x64 : Shape := ⟨2, ![64, 64]⟩

abbrev nBuf : Space → Nat
  | .hbm => 3
  | .vmem => 4
  | .smem => 0
  | _ => 0

abbrev bufTy : (tb : Table) → Fin (tcTables nBuf tb) → BufTy
  | .hbm, ⟨0, _⟩ => ⟨S64x1024, .f32⟩
  | .hbm, ⟨1, _⟩ => ⟨S1024x64, .f32⟩
  | .hbm, ⟨2, _⟩ => ⟨S1024x64, .f32⟩
  | .local _ .vmem, ⟨0, _⟩ => ⟨S64x1024, .f32⟩
  | .local _ .vmem, ⟨1, _⟩ => ⟨S1024x64, .f32⟩
  | .local _ .vmem, ⟨2, _⟩ => ⟨S1024x64, .f32⟩
  | .local _ .vmem, ⟨3, _⟩ => ⟨S28x64x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 111 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | _ => false

abbrev sig : RefSig :=
  (ofTc nBuf bufTy 1 111 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_14 : BitVec 32 := 1#32
  let v32 : BitVec 32 := Scalar.muli v28 c1_i32_14
  let v33 : BitVec 32 := Scalar.addi c0_i32_15 v32
  v33.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_17 : BitVec 32 := 1#32
  let v34 : BitVec 32 := Scalar.muli v24 c1_i32_17
  let v35 : BitVec 32 := Scalar.addi c0_i32_18 v34
  v35.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_19 : BitVec 32 := 3#32
  let v36 : BitVec 1 := Scalar.cmpi .slt v20 c3_i32_19
  let v37 : BitVec 32 := Scalar.extui v36
  let c0_i32_20 : BitVec 32 := 0#32
  let v38 : BitVec 1 := Scalar.cmpi .ne v37 c0_i32_20
  v38

def k0_dev3 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_444 : BitVec 32 := 1#32
  let v648 : BitVec 32 := Scalar.muli v29 c1_i32_444
  let v649 : BitVec 32 := Scalar.addi c0_i32_445 v648
  v649.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_21 : BitVec 32 := 0#32
  let v39 : BitVec 1 := Scalar.cmpi .sgt v20 c0_i32_21
  let v40 : BitVec 32 := Scalar.extui v39
  let c0_i32_22 : BitVec 32 := 0#32
  let v41 : BitVec 1 := Scalar.cmpi .ne v40 c0_i32_22
  v41

def k0_dev4 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_444 : BitVec 32 := 1#32
  let v648 : BitVec 32 := Scalar.muli v30 c1_i32_444
  let v649 : BitVec 32 := Scalar.addi c0_i32_445 v648
  v649.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_32 : BitVec 32 := 3#32
  let v53 : BitVec 1 := Scalar.cmpi .slt v20 c3_i32_32
  let c0_i32_33 : BitVec 32 := 0#32
  let v54 : BitVec 32 := Scalar.addi v20 c0_i32_33
  let c0_i32_34 : BitVec 32 := 0#32
  let v55 : BitVec 1 := Scalar.cmpi .sge v54 c0_i32_34
  let c0_i32_35 : BitVec 32 := 0#32
  let v56 : BitVec 32 := Scalar.addi v20 c0_i32_35
  let c3_i32_36 : BitVec 32 := 3#32
  let v57 : BitVec 1 := Scalar.cmpi .sle v56 c3_i32_36
  let v58 : BitVec 1 := Scalar.andi v55 v57
  let v59 : BitVec 1 := Scalar.andi v53 v58
  let v60 : BitVec 32 := Scalar.extui v59
  let c0_i32_37 : BitVec 32 := 0#32
  let v61 : BitVec 1 := Scalar.cmpi .ne v60 c0_i32_37
  v61

def k0_dev5 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_449 : BitVec 32 := 1#32
  let v648 : BitVec 32 := Scalar.muli v29 c1_i32_449
  let v649 : BitVec 32 := Scalar.addi c0_i32_450 v648
  v649.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_38 : BitVec 32 := 0#32
  let v62 : BitVec 1 := Scalar.cmpi .sgt v20 c0_i32_38
  let c0_i32_39 : BitVec 32 := 0#32
  let v63 : BitVec 32 := Scalar.addi v20 c0_i32_39
  let c0_i32_40 : BitVec 32 := 0#32
  let v64 : BitVec 1 := Scalar.cmpi .sge v63 c0_i32_40
  let c0_i32_41 : BitVec 32 := 0#32
  let v65 : BitVec 32 := Scalar.addi v20 c0_i32_41
  let c3_i32_42 : BitVec 32 := 3#32
  let v66 : BitVec 1 := Scalar.cmpi .sle v65 c3_i32_42
  let v67 : BitVec 1 := Scalar.andi v64 v66
  let v68 : BitVec 1 := Scalar.andi v62 v67
  let v69 : BitVec 32 := Scalar.extui v68
  let c0_i32_43 : BitVec 32 := 0#32
  let v70 : BitVec 1 := Scalar.cmpi .ne v69 c0_i32_43
  v70

def k0_dev6 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_449 : BitVec 32 := 1#32
  let v648 : BitVec 32 := Scalar.muli v30 c1_i32_449
  let v649 : BitVec 32 := Scalar.addi c0_i32_450 v648
  v649.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_44 : BitVec 32 := 0#32
  let v71 : BitVec 32 := Scalar.addi v20 c0_i32_44
  let c0_i32_45 : BitVec 32 := 0#32
  let v72 : BitVec 1 := Scalar.cmpi .sge v71 c0_i32_45
  let c0_i32_46 : BitVec 32 := 0#32
  let v73 : BitVec 32 := Scalar.addi v20 c0_i32_46
  let c3_i32_47 : BitVec 32 := 3#32
  let v74 : BitVec 1 := Scalar.cmpi .sle v73 c3_i32_47
  let v75 : BitVec 1 := Scalar.andi v72 v74
  let v76 : BitVec 32 := Scalar.extui v75
  let c0_i32_48 : BitVec 32 := 0#32
  let v77 : BitVec 1 := Scalar.cmpi .ne v76 c0_i32_48
  v77

def k0_dev7 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_450 : BitVec 32 := 1#32
  let v648 : BitVec 32 := Scalar.muli v24 c1_i32_450
  let v649 : BitVec 32 := Scalar.addi c0_i32_451 v648
  v649.toNat
def k0_dev8 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_463 : BitVec 32 := 1#32
  let v658 : BitVec 32 := Scalar.muli v28 c1_i32_463
  let v659 : BitVec 32 := Scalar.addi c0_i32_464 v658
  v659.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_49 : BitVec 32 := 3#32
  let v78 : BitVec 1 := Scalar.cmpi .slt v20 c3_i32_49
  let c0_i32_50 : BitVec 32 := 0#32
  let v79 : BitVec 32 := Scalar.addi v20 c0_i32_50
  let c0_i32_51 : BitVec 32 := 0#32
  let v80 : BitVec 1 := Scalar.cmpi .sge v79 c0_i32_51
  let c0_i32_52 : BitVec 32 := 0#32
  let v81 : BitVec 32 := Scalar.addi v20 c0_i32_52
  let c3_i32_53 : BitVec 32 := 3#32
  let v82 : BitVec 1 := Scalar.cmpi .sle v81 c3_i32_53
  let v83 : BitVec 1 := Scalar.andi v80 v82
  let v84 : BitVec 1 := Scalar.andi v78 v83
  let v85 : BitVec 32 := Scalar.extui v84
  let c0_i32_54 : BitVec 32 := 0#32
  let v86 : BitVec 1 := Scalar.cmpi .ne v85 c0_i32_54
  v86

def k0_dev9 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_449 : BitVec 32 := 1#32
  let v648 : BitVec 32 := Scalar.muli v29 c1_i32_449
  let v649 : BitVec 32 := Scalar.addi c0_i32_450 v648
  v649.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_55 : BitVec 32 := 0#32
  let v87 : BitVec 1 := Scalar.cmpi .sgt v20 c0_i32_55
  let c0_i32_56 : BitVec 32 := 0#32
  let v88 : BitVec 32 := Scalar.addi v20 c0_i32_56
  let c0_i32_57 : BitVec 32 := 0#32
  let v89 : BitVec 1 := Scalar.cmpi .sge v88 c0_i32_57
  let c0_i32_58 : BitVec 32 := 0#32
  let v90 : BitVec 32 := Scalar.addi v20 c0_i32_58
  let c3_i32_59 : BitVec 32 := 3#32
  let v91 : BitVec 1 := Scalar.cmpi .sle v90 c3_i32_59
  let v92 : BitVec 1 := Scalar.andi v89 v91
  let v93 : BitVec 1 := Scalar.andi v87 v92
  let v94 : BitVec 32 := Scalar.extui v93
  let c0_i32_60 : BitVec 32 := 0#32
  let v95 : BitVec 1 := Scalar.cmpi .ne v94 c0_i32_60
  v95

def k0_dev10 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_449 : BitVec 32 := 1#32
  let v648 : BitVec 32 := Scalar.muli v30 c1_i32_449
  let v649 : BitVec 32 := Scalar.addi c0_i32_450 v648
  v649.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_61 : BitVec 32 := 0#32
  let v96 : BitVec 32 := Scalar.addi v20 c0_i32_61
  let c0_i32_62 : BitVec 32 := 0#32
  let v97 : BitVec 1 := Scalar.cmpi .sge v96 c0_i32_62
  let c0_i32_63 : BitVec 32 := 0#32
  let v98 : BitVec 32 := Scalar.addi v20 c0_i32_63
  let c3_i32_64 : BitVec 32 := 3#32
  let v99 : BitVec 1 := Scalar.cmpi .sle v98 c3_i32_64
  let v100 : BitVec 1 := Scalar.andi v97 v99
  let v101 : BitVec 32 := Scalar.extui v100
  let c0_i32_65 : BitVec 32 := 0#32
  let v102 : BitVec 1 := Scalar.cmpi .ne v101 c0_i32_65
  v102

def k0_dev11 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_450 : BitVec 32 := 1#32
  let v648 : BitVec 32 := Scalar.muli v24 c1_i32_450
  let v649 : BitVec 32 := Scalar.addi c0_i32_451 v648
  v649.toNat
def k0_dev12 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_462 : BitVec 32 := 1#32
  let v658 : BitVec 32 := Scalar.muli v28 c1_i32_462
  let v659 : BitVec 32 := Scalar.addi c0_i32_463 v658
  v659.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v108 : BitVec 32 := Scalar.muli v2 c64_i32
  let v109 : Index := Scalar.indexCast v108
  let c0_71 : Index := 0#32
  ![v109.toNat, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_76 : BitVec 32 := 3#32
  let v118 : BitVec 1 := Scalar.cmpi .slt v20 c3_i32_76
  let c_m1_i32_77 : BitVec 32 := 4294967295#32
  let v119 : BitVec 32 := Scalar.addi v20 c_m1_i32_77
  let c0_i32_78 : BitVec 32 := 0#32
  let v120 : BitVec 1 := Scalar.cmpi .sge v119 c0_i32_78
  let c_m1_i32_79 : BitVec 32 := 4294967295#32
  let v121 : BitVec 32 := Scalar.addi v20 c_m1_i32_79
  let c3_i32_80 : BitVec 32 := 3#32
  let v122 : BitVec 1 := Scalar.cmpi .sle v121 c3_i32_80
  let v123 : BitVec 1 := Scalar.andi v120 v122
  let v124 : BitVec 1 := Scalar.andi v118 v123
  let v125 : BitVec 32 := Scalar.extui v124
  let c0_i32_81 : BitVec 32 := 0#32
  let v126 : BitVec 1 := Scalar.cmpi .ne v125 c0_i32_81
  v126

def k0_dev13 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_448 : BitVec 32 := 1#32
  let v648 : BitVec 32 := Scalar.muli v29 c1_i32_448
  let v649 : BitVec 32 := Scalar.addi c0_i32_449 v648
  v649.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m1_i32_82 : BitVec 32 := 4294967295#32
  let v127 : BitVec 32 := Scalar.addi v20 c_m1_i32_82
  let c0_i32_83 : BitVec 32 := 0#32
  let v128 : BitVec 1 := Scalar.cmpi .sge v127 c0_i32_83
  let c_m1_i32_84 : BitVec 32 := 4294967295#32
  let v129 : BitVec 32 := Scalar.addi v20 c_m1_i32_84
  let c3_i32_85 : BitVec 32 := 3#32
  let v130 : BitVec 1 := Scalar.cmpi .sle v129 c3_i32_85
  let v131 : BitVec 1 := Scalar.andi v128 v130
  let v132 : BitVec 32 := Scalar.extui v131
  let c0_i32_86 : BitVec 32 := 0#32
  let v133 : BitVec 1 := Scalar.cmpi .ne v132 c0_i32_86
  v133

def k0_dev14 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_450 : BitVec 32 := 1#32
  let v648 : BitVec 32 := Scalar.muli v24 c1_i32_450
  let v649 : BitVec 32 := Scalar.addi c0_i32_451 v648
  v649.toNat
def k0_dev15 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_463 : BitVec 32 := 1#32
  let v658 : BitVec 32 := Scalar.muli v28 c1_i32_463
  let v659 : BitVec 32 := Scalar.addi c0_i32_464 v658
  v659.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_92 : BitVec 32 := 0#32
  let v141 : BitVec 1 := Scalar.cmpi .sgt v20 c0_i32_92
  let c1_i32_93 : BitVec 32 := 1#32
  let v142 : BitVec 32 := Scalar.addi v20 c1_i32_93
  let c0_i32_94 : BitVec 32 := 0#32
  let v143 : BitVec 1 := Scalar.cmpi .sge v142 c0_i32_94
  let c1_i32_95 : BitVec 32 := 1#32
  let v144 : BitVec 32 := Scalar.addi v20 c1_i32_95
  let c3_i32_96 : BitVec 32 := 3#32
  let v145 : BitVec 1 := Scalar.cmpi .sle v144 c3_i32_96
  let v146 : BitVec 1 := Scalar.andi v143 v145
  let v147 : BitVec 1 := Scalar.andi v141 v146
  let v148 : BitVec 32 := Scalar.extui v147
  let c0_i32_97 : BitVec 32 := 0#32
  let v149 : BitVec 1 := Scalar.cmpi .ne v148 c0_i32_97
  v149

def k0_dev16 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_449 : BitVec 32 := 1#32
  let v648 : BitVec 32 := Scalar.muli v30 c1_i32_449
  let v649 : BitVec 32 := Scalar.addi c0_i32_450 v648
  v649.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_98 : BitVec 32 := 1#32
  let v150 : BitVec 32 := Scalar.addi v20 c1_i32_98
  let c0_i32_99 : BitVec 32 := 0#32
  let v151 : BitVec 1 := Scalar.cmpi .sge v150 c0_i32_99
  let c1_i32_100 : BitVec 32 := 1#32
  let v152 : BitVec 32 := Scalar.addi v20 c1_i32_100
  let c3_i32_101 : BitVec 32 := 3#32
  let v153 : BitVec 1 := Scalar.cmpi .sle v152 c3_i32_101
  let v154 : BitVec 1 := Scalar.andi v151 v153
  let v155 : BitVec 32 := Scalar.extui v154
  let c0_i32_102 : BitVec 32 := 0#32
  let v156 : BitVec 1 := Scalar.cmpi .ne v155 c0_i32_102
  v156

def k0_dev17 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_450 : BitVec 32 := 1#32
  let v648 : BitVec 32 := Scalar.muli v24 c1_i32_450
  let v649 : BitVec 32 := Scalar.addi c0_i32_451 v648
  v649.toNat
def k0_dev18 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_463 : BitVec 32 := 1#32
  let v658 : BitVec 32 := Scalar.muli v28 c1_i32_463
  let v659 : BitVec 32 := Scalar.addi c0_i32_464 v658
  v659.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_108 : BitVec 32 := 3#32
  let v164 : BitVec 1 := Scalar.cmpi .slt v20 c3_i32_108
  let c_m1_i32_109 : BitVec 32 := 4294967295#32
  let v165 : BitVec 32 := Scalar.addi v20 c_m1_i32_109
  let c0_i32_110 : BitVec 32 := 0#32
  let v166 : BitVec 1 := Scalar.cmpi .sge v165 c0_i32_110
  let c_m1_i32_111 : BitVec 32 := 4294967295#32
  let v167 : BitVec 32 := Scalar.addi v20 c_m1_i32_111
  let c3_i32_112 : BitVec 32 := 3#32
  let v168 : BitVec 1 := Scalar.cmpi .sle v167 c3_i32_112
  let v169 : BitVec 1 := Scalar.andi v166 v168
  let v170 : BitVec 1 := Scalar.andi v164 v169
  let v171 : BitVec 32 := Scalar.extui v170
  let c0_i32_113 : BitVec 32 := 0#32
  let v172 : BitVec 1 := Scalar.cmpi .ne v171 c0_i32_113
  v172

def k0_dev19 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_448 : BitVec 32 := 1#32
  let v648 : BitVec 32 := Scalar.muli v29 c1_i32_448
  let v649 : BitVec 32 := Scalar.addi c0_i32_449 v648
  v649.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m1_i32_114 : BitVec 32 := 4294967295#32
  let v173 : BitVec 32 := Scalar.addi v20 c_m1_i32_114
  let c0_i32_115 : BitVec 32 := 0#32
  let v174 : BitVec 1 := Scalar.cmpi .sge v173 c0_i32_115
  let c_m1_i32_116 : BitVec 32 := 4294967295#32
  let v175 : BitVec 32 := Scalar.addi v20 c_m1_i32_116
  let c3_i32_117 : BitVec 32 := 3#32
  let v176 : BitVec 1 := Scalar.cmpi .sle v175 c3_i32_117
  let v177 : BitVec 1 := Scalar.andi v174 v176
  let v178 : BitVec 32 := Scalar.extui v177
  let c0_i32_118 : BitVec 32 := 0#32
  let v179 : BitVec 1 := Scalar.cmpi .ne v178 c0_i32_118
  v179

def k0_dev20 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_450 : BitVec 32 := 1#32
  let v648 : BitVec 32 := Scalar.muli v24 c1_i32_450
  let v649 : BitVec 32 := Scalar.addi c0_i32_451 v648
  v649.toNat
def k0_dev21 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_462 : BitVec 32 := 1#32
  let v658 : BitVec 32 := Scalar.muli v28 c1_i32_462
  let v659 : BitVec 32 := Scalar.addi c0_i32_463 v658
  v659.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_124 : BitVec 32 := 0#32
  let v187 : BitVec 1 := Scalar.cmpi .sgt v20 c0_i32_124
  let c1_i32_125 : BitVec 32 := 1#32
  let v188 : BitVec 32 := Scalar.addi v20 c1_i32_125
  let c0_i32_126 : BitVec 32 := 0#32
  let v189 : BitVec 1 := Scalar.cmpi .sge v188 c0_i32_126
  let c1_i32_127 : BitVec 32 := 1#32
  let v190 : BitVec 32 := Scalar.addi v20 c1_i32_127
  let c3_i32_128 : BitVec 32 := 3#32
  let v191 : BitVec 1 := Scalar.cmpi .sle v190 c3_i32_128
  let v192 : BitVec 1 := Scalar.andi v189 v191
  let v193 : BitVec 1 := Scalar.andi v187 v192
  let v194 : BitVec 32 := Scalar.extui v193
  let c0_i32_129 : BitVec 32 := 0#32
  let v195 : BitVec 1 := Scalar.cmpi .ne v194 c0_i32_129
  v195

def k0_dev22 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_449 : BitVec 32 := 1#32
  let v648 : BitVec 32 := Scalar.muli v30 c1_i32_449
  let v649 : BitVec 32 := Scalar.addi c0_i32_450 v648
  v649.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_130 : BitVec 32 := 1#32
  let v196 : BitVec 32 := Scalar.addi v20 c1_i32_130
  let c0_i32_131 : BitVec 32 := 0#32
  let v197 : BitVec 1 := Scalar.cmpi .sge v196 c0_i32_131
  let c1_i32_132 : BitVec 32 := 1#32
  let v198 : BitVec 32 := Scalar.addi v20 c1_i32_132
  let c3_i32_133 : BitVec 32 := 3#32
  let v199 : BitVec 1 := Scalar.cmpi .sle v198 c3_i32_133
  let v200 : BitVec 1 := Scalar.andi v197 v199
  let v201 : BitVec 32 := Scalar.extui v200
  let c0_i32_134 : BitVec 32 := 0#32
  let v202 : BitVec 1 := Scalar.cmpi .ne v201 c0_i32_134
  v202

def k0_dev23 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_450 : BitVec 32 := 1#32
  let v648 : BitVec 32 := Scalar.muli v24 c1_i32_450
  let v649 : BitVec 32 := Scalar.addi c0_i32_451 v648
  v649.toNat
def k0_dev24 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_462 : BitVec 32 := 1#32
  let v658 : BitVec 32 := Scalar.muli v28 c1_i32_462
  let v659 : BitVec 32 := Scalar.addi c0_i32_463 v658
  v659.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m1_i32_135 : BitVec 32 := 4294967295#32
  let v203 : BitVec 32 := Scalar.addi v20 c_m1_i32_135
  let c0_i32_136 : BitVec 32 := 0#32
  let v204 : BitVec 1 := Scalar.cmpi .sge v203 c0_i32_136
  let c_m1_i32_137 : BitVec 32 := 4294967295#32
  let v205 : BitVec 32 := Scalar.addi v20 c_m1_i32_137
  let c3_i32_138 : BitVec 32 := 3#32
  let v206 : BitVec 1 := Scalar.cmpi .sle v205 c3_i32_138
  let v207 : BitVec 1 := Scalar.andi v204 v206
  let v208 : BitVec 32 := Scalar.extui v207
  let c0_i32_139 : BitVec 32 := 0#32
  let v209 : BitVec 1 := Scalar.cmpi .ne v208 c0_i32_139
  v209

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m1_i32_443 : BitVec 32 := 4294967295#32
  let v648 : BitVec 32 := Scalar.addi v20 c_m1_i32_443
  let c4_i32_444 : BitVec 32 := 4#32
  let v649 : BitVec 32 := Scalar.muli v648 c4_i32_444
  let c4_i32 : BitVec 32 := 4#32
  let v3 : BitVec 32 := Scalar.remsi v2 c4_i32
  let c0_i32_445 : BitVec 32 := 0#32
  let v650 : BitVec 32 := Scalar.addi v3 c0_i32_445
  let c4_i32_446 : BitVec 32 := 4#32
  let v651 : BitVec 32 := Scalar.addi v650 c4_i32_446
  let c4_i32_447 : BitVec 32 := 4#32
  let v652 : BitVec 32 := Scalar.remsi v651 c4_i32_447
  let v653 : BitVec 32 := Scalar.addi v649 v652
  let c64_i32_453 : BitVec 32 := 64#32
  let v659 : BitVec 32 := Scalar.muli v653 c64_i32_453
  let v660 : Index := Scalar.indexCast v659
  let c0_454 : Index := 0#32
  ![v660.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_140 : BitVec 32 := 1#32
  let v210 : BitVec 32 := Scalar.addi v20 c1_i32_140
  let c0_i32_141 : BitVec 32 := 0#32
  let v211 : BitVec 1 := Scalar.cmpi .sge v210 c0_i32_141
  let c1_i32_142 : BitVec 32 := 1#32
  let v212 : BitVec 32 := Scalar.addi v20 c1_i32_142
  let c3_i32_143 : BitVec 32 := 3#32
  let v213 : BitVec 1 := Scalar.cmpi .sle v212 c3_i32_143
  let v214 : BitVec 1 := Scalar.andi v211 v213
  let v215 : BitVec 32 := Scalar.extui v214
  let c0_i32_144 : BitVec 32 := 0#32
  let v216 : BitVec 1 := Scalar.cmpi .ne v215 c0_i32_144
  v216

def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_443 : BitVec 32 := 1#32
  let v648 : BitVec 32 := Scalar.addi v20 c1_i32_443
  let c4_i32_444 : BitVec 32 := 4#32
  let v649 : BitVec 32 := Scalar.muli v648 c4_i32_444
  let c4_i32 : BitVec 32 := 4#32
  let v3 : BitVec 32 := Scalar.remsi v2 c4_i32
  let c0_i32_445 : BitVec 32 := 0#32
  let v650 : BitVec 32 := Scalar.addi v3 c0_i32_445
  let c4_i32_446 : BitVec 32 := 4#32
  let v651 : BitVec 32 := Scalar.addi v650 c4_i32_446
  let c4_i32_447 : BitVec 32 := 4#32
  let v652 : BitVec 32 := Scalar.remsi v651 c4_i32_447
  let v653 : BitVec 32 := Scalar.addi v649 v652
  let c64_i32_453 : BitVec 32 := 64#32
  let v659 : BitVec 32 := Scalar.muli v653 c64_i32_453
  let v660 : Index := Scalar.indexCast v659
  let c0_454 : Index := 0#32
  ![v660.toNat, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_145 : BitVec 32 := 0#32
  let v217 : BitVec 32 := Scalar.addi v20 c0_i32_145
  let c0_i32_146 : BitVec 32 := 0#32
  let v218 : BitVec 1 := Scalar.cmpi .sge v217 c0_i32_146
  let c0_i32_147 : BitVec 32 := 0#32
  let v219 : BitVec 32 := Scalar.addi v20 c0_i32_147
  let c3_i32_148 : BitVec 32 := 3#32
  let v220 : BitVec 1 := Scalar.cmpi .sle v219 c3_i32_148
  let v221 : BitVec 1 := Scalar.andi v218 v220
  let v222 : BitVec 32 := Scalar.extui v221
  let c0_i32_149 : BitVec 32 := 0#32
  let v223 : BitVec 1 := Scalar.cmpi .ne v222 c0_i32_149
  v223

def k0_dev25 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_463 : BitVec 32 := 1#32
  let v656 : BitVec 32 := Scalar.muli v24 c1_i32_463
  let v657 : BitVec 32 := Scalar.addi c0_i32_464 v656
  v657.toNat
def k0_dev26 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_517 : BitVec 32 := 1#32
  let v690 : BitVec 32 := Scalar.muli v28 c1_i32_517
  let v691 : BitVec 32 := Scalar.addi c0_i32_518 v690
  v691.toNat
def k0_off4 (d0 : Dev nD) (c_m1_i32_525 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_523 : BitVec 32 := 0#32
  let v700 : BitVec 32 := Scalar.addi v20 c0_i32_523
  let c4_i32_524 : BitVec 32 := 4#32
  let v701 : BitVec 32 := Scalar.muli v700 c4_i32_524
  let c4_i32 : BitVec 32 := 4#32
  let v3 : BitVec 32 := Scalar.remsi v2 c4_i32
  let v702 : BitVec 32 := Scalar.addi v3 c_m1_i32_525
  let c4_i32_526 : BitVec 32 := 4#32
  let v703 : BitVec 32 := Scalar.addi v702 c4_i32_526
  let c4_i32_527 : BitVec 32 := 4#32
  let v704 : BitVec 32 := Scalar.remsi v703 c4_i32_527
  let v705 : BitVec 32 := Scalar.addi v701 v704
  let c64_i32_533 : BitVec 32 := 64#32
  let v711 : BitVec 32 := Scalar.muli v705 c64_i32_533
  let v712 : Index := Scalar.indexCast v711
  let c0_534 : Index := 0#32
  ![v712.toNat, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_154 : BitVec 32 := 3#32
  let v231 : BitVec 1 := Scalar.cmpi .slt v20 c3_i32_154
  let c_m2_i32_155 : BitVec 32 := 4294967294#32
  let v232 : BitVec 32 := Scalar.addi v20 c_m2_i32_155
  let c0_i32_156 : BitVec 32 := 0#32
  let v233 : BitVec 1 := Scalar.cmpi .sge v232 c0_i32_156
  let c_m2_i32_157 : BitVec 32 := 4294967294#32
  let v234 : BitVec 32 := Scalar.addi v20 c_m2_i32_157
  let c3_i32_158 : BitVec 32 := 3#32
  let v235 : BitVec 1 := Scalar.cmpi .sle v234 c3_i32_158
  let v236 : BitVec 1 := Scalar.andi v233 v235
  let v237 : BitVec 1 := Scalar.andi v231 v236
  let v238 : BitVec 32 := Scalar.extui v237
  let c0_i32_159 : BitVec 32 := 0#32
  let v239 : BitVec 1 := Scalar.cmpi .ne v238 c0_i32_159
  v239

def k0_dev27 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_447 : BitVec 32 := 1#32
  let v648 : BitVec 32 := Scalar.muli v29 c1_i32_447
  let v649 : BitVec 32 := Scalar.addi c0_i32_448 v648
  v649.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m2_i32_160 : BitVec 32 := 4294967294#32
  let v240 : BitVec 32 := Scalar.addi v20 c_m2_i32_160
  let c0_i32_161 : BitVec 32 := 0#32
  let v241 : BitVec 1 := Scalar.cmpi .sge v240 c0_i32_161
  let c_m2_i32_162 : BitVec 32 := 4294967294#32
  let v242 : BitVec 32 := Scalar.addi v20 c_m2_i32_162
  let c3_i32_163 : BitVec 32 := 3#32
  let v243 : BitVec 1 := Scalar.cmpi .sle v242 c3_i32_163
  let v244 : BitVec 1 := Scalar.andi v241 v243
  let v245 : BitVec 32 := Scalar.extui v244
  let c0_i32_164 : BitVec 32 := 0#32
  let v246 : BitVec 1 := Scalar.cmpi .ne v245 c0_i32_164
  v246

def k0_dev28 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_449 : BitVec 32 := 1#32
  let v648 : BitVec 32 := Scalar.muli v24 c1_i32_449
  let v649 : BitVec 32 := Scalar.addi c0_i32_450 v648
  v649.toNat
def k0_dev29 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_462 : BitVec 32 := 1#32
  let v658 : BitVec 32 := Scalar.muli v28 c1_i32_462
  let v659 : BitVec 32 := Scalar.addi c0_i32_463 v658
  v659.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_169 : BitVec 32 := 0#32
  let v254 : BitVec 1 := Scalar.cmpi .sgt v20 c0_i32_169
  let c2_i32_170 : BitVec 32 := 2#32
  let v255 : BitVec 32 := Scalar.addi v20 c2_i32_170
  let c0_i32_171 : BitVec 32 := 0#32
  let v256 : BitVec 1 := Scalar.cmpi .sge v255 c0_i32_171
  let c2_i32_172 : BitVec 32 := 2#32
  let v257 : BitVec 32 := Scalar.addi v20 c2_i32_172
  let c3_i32_173 : BitVec 32 := 3#32
  let v258 : BitVec 1 := Scalar.cmpi .sle v257 c3_i32_173
  let v259 : BitVec 1 := Scalar.andi v256 v258
  let v260 : BitVec 1 := Scalar.andi v254 v259
  let v261 : BitVec 32 := Scalar.extui v260
  let c0_i32_174 : BitVec 32 := 0#32
  let v262 : BitVec 1 := Scalar.cmpi .ne v261 c0_i32_174
  v262

def k0_dev30 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_449 : BitVec 32 := 1#32
  let v648 : BitVec 32 := Scalar.muli v30 c1_i32_449
  let v649 : BitVec 32 := Scalar.addi c0_i32_450 v648
  v649.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_175 : BitVec 32 := 2#32
  let v263 : BitVec 32 := Scalar.addi v20 c2_i32_175
  let c0_i32_176 : BitVec 32 := 0#32
  let v264 : BitVec 1 := Scalar.cmpi .sge v263 c0_i32_176
  let c2_i32_177 : BitVec 32 := 2#32
  let v265 : BitVec 32 := Scalar.addi v20 c2_i32_177
  let c3_i32_178 : BitVec 32 := 3#32
  let v266 : BitVec 1 := Scalar.cmpi .sle v265 c3_i32_178
  let v267 : BitVec 1 := Scalar.andi v264 v266
  let v268 : BitVec 32 := Scalar.extui v267
  let c0_i32_179 : BitVec 32 := 0#32
  let v269 : BitVec 1 := Scalar.cmpi .ne v268 c0_i32_179
  v269

def k0_dev31 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_450 : BitVec 32 := 1#32
  let v648 : BitVec 32 := Scalar.muli v24 c1_i32_450
  let v649 : BitVec 32 := Scalar.addi c0_i32_451 v648
  v649.toNat
def k0_dev32 (d0 : Dev nD) : Nat :=
  let c0_i32_465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_464 : BitVec 32 := 1#32
  let v658 : BitVec 32 := Scalar.muli v28 c1_i32_464
  let v659 : BitVec 32 := Scalar.addi c0_i32_465 v658
  v659.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_185 : BitVec 32 := 3#32
  let v277 : BitVec 1 := Scalar.cmpi .slt v20 c3_i32_185
  let c_m2_i32_186 : BitVec 32 := 4294967294#32
  let v278 : BitVec 32 := Scalar.addi v20 c_m2_i32_186
  let c0_i32_187 : BitVec 32 := 0#32
  let v279 : BitVec 1 := Scalar.cmpi .sge v278 c0_i32_187
  let c_m2_i32_188 : BitVec 32 := 4294967294#32
  let v280 : BitVec 32 := Scalar.addi v20 c_m2_i32_188
  let c3_i32_189 : BitVec 32 := 3#32
  let v281 : BitVec 1 := Scalar.cmpi .sle v280 c3_i32_189
  let v282 : BitVec 1 := Scalar.andi v279 v281
  let v283 : BitVec 1 := Scalar.andi v277 v282
  let v284 : BitVec 32 := Scalar.extui v283
  let c0_i32_190 : BitVec 32 := 0#32
  let v285 : BitVec 1 := Scalar.cmpi .ne v284 c0_i32_190
  v285

def k0_dev33 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_447 : BitVec 32 := 1#32
  let v648 : BitVec 32 := Scalar.muli v29 c1_i32_447
  let v649 : BitVec 32 := Scalar.addi c0_i32_448 v648
  v649.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m2_i32_191 : BitVec 32 := 4294967294#32
  let v286 : BitVec 32 := Scalar.addi v20 c_m2_i32_191
  let c0_i32_192 : BitVec 32 := 0#32
  let v287 : BitVec 1 := Scalar.cmpi .sge v286 c0_i32_192
  let c_m2_i32_193 : BitVec 32 := 4294967294#32
  let v288 : BitVec 32 := Scalar.addi v20 c_m2_i32_193
  let c3_i32_194 : BitVec 32 := 3#32
  let v289 : BitVec 1 := Scalar.cmpi .sle v288 c3_i32_194
  let v290 : BitVec 1 := Scalar.andi v287 v289
  let v291 : BitVec 32 := Scalar.extui v290
  let c0_i32_195 : BitVec 32 := 0#32
  let v292 : BitVec 1 := Scalar.cmpi .ne v291 c0_i32_195
  v292

def k0_dev34 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_449 : BitVec 32 := 1#32
  let v648 : BitVec 32 := Scalar.muli v24 c1_i32_449
  let v649 : BitVec 32 := Scalar.addi c0_i32_450 v648
  v649.toNat
def k0_dev35 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_461 : BitVec 32 := 1#32
  let v658 : BitVec 32 := Scalar.muli v28 c1_i32_461
  let v659 : BitVec 32 := Scalar.addi c0_i32_462 v658
  v659.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_201 : BitVec 32 := 0#32
  let v300 : BitVec 1 := Scalar.cmpi .sgt v20 c0_i32_201
  let c2_i32_202 : BitVec 32 := 2#32
  let v301 : BitVec 32 := Scalar.addi v20 c2_i32_202
  let c0_i32_203 : BitVec 32 := 0#32
  let v302 : BitVec 1 := Scalar.cmpi .sge v301 c0_i32_203
  let c2_i32_204 : BitVec 32 := 2#32
  let v303 : BitVec 32 := Scalar.addi v20 c2_i32_204
  let c3_i32_205 : BitVec 32 := 3#32
  let v304 : BitVec 1 := Scalar.cmpi .sle v303 c3_i32_205
  let v305 : BitVec 1 := Scalar.andi v302 v304
  let v306 : BitVec 1 := Scalar.andi v300 v305
  let v307 : BitVec 32 := Scalar.extui v306
  let c0_i32_206 : BitVec 32 := 0#32
  let v308 : BitVec 1 := Scalar.cmpi .ne v307 c0_i32_206
  v308

def k0_dev36 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_449 : BitVec 32 := 1#32
  let v648 : BitVec 32 := Scalar.muli v30 c1_i32_449
  let v649 : BitVec 32 := Scalar.addi c0_i32_450 v648
  v649.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_207 : BitVec 32 := 2#32
  let v309 : BitVec 32 := Scalar.addi v20 c2_i32_207
  let c0_i32_208 : BitVec 32 := 0#32
  let v310 : BitVec 1 := Scalar.cmpi .sge v309 c0_i32_208
  let c2_i32_209 : BitVec 32 := 2#32
  let v311 : BitVec 32 := Scalar.addi v20 c2_i32_209
  let c3_i32_210 : BitVec 32 := 3#32
  let v312 : BitVec 1 := Scalar.cmpi .sle v311 c3_i32_210
  let v313 : BitVec 1 := Scalar.andi v310 v312
  let v314 : BitVec 32 := Scalar.extui v313
  let c0_i32_211 : BitVec 32 := 0#32
  let v315 : BitVec 1 := Scalar.cmpi .ne v314 c0_i32_211
  v315

def k0_dev37 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_450 : BitVec 32 := 1#32
  let v648 : BitVec 32 := Scalar.muli v24 c1_i32_450
  let v649 : BitVec 32 := Scalar.addi c0_i32_451 v648
  v649.toNat
def k0_dev38 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_463 : BitVec 32 := 1#32
  let v658 : BitVec 32 := Scalar.muli v28 c1_i32_463
  let v659 : BitVec 32 := Scalar.addi c0_i32_464 v658
  v659.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m2_i32_212 : BitVec 32 := 4294967294#32
  let v316 : BitVec 32 := Scalar.addi v20 c_m2_i32_212
  let c0_i32_213 : BitVec 32 := 0#32
  let v317 : BitVec 1 := Scalar.cmpi .sge v316 c0_i32_213
  let c_m2_i32_214 : BitVec 32 := 4294967294#32
  let v318 : BitVec 32 := Scalar.addi v20 c_m2_i32_214
  let c3_i32_215 : BitVec 32 := 3#32
  let v319 : BitVec 1 := Scalar.cmpi .sle v318 c3_i32_215
  let v320 : BitVec 1 := Scalar.andi v317 v319
  let v321 : BitVec 32 := Scalar.extui v320
  let c0_i32_216 : BitVec 32 := 0#32
  let v322 : BitVec 1 := Scalar.cmpi .ne v321 c0_i32_216
  v322

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m2_i32_443 : BitVec 32 := 4294967294#32
  let v648 : BitVec 32 := Scalar.addi v20 c_m2_i32_443
  let c4_i32_444 : BitVec 32 := 4#32
  let v649 : BitVec 32 := Scalar.muli v648 c4_i32_444
  let c4_i32 : BitVec 32 := 4#32
  let v3 : BitVec 32 := Scalar.remsi v2 c4_i32
  let c0_i32_445 : BitVec 32 := 0#32
  let v650 : BitVec 32 := Scalar.addi v3 c0_i32_445
  let c4_i32_446 : BitVec 32 := 4#32
  let v651 : BitVec 32 := Scalar.addi v650 c4_i32_446
  let c4_i32_447 : BitVec 32 := 4#32
  let v652 : BitVec 32 := Scalar.remsi v651 c4_i32_447
  let v653 : BitVec 32 := Scalar.addi v649 v652
  let c64_i32_453 : BitVec 32 := 64#32
  let v659 : BitVec 32 := Scalar.muli v653 c64_i32_453
  let v660 : Index := Scalar.indexCast v659
  let c0_454 : Index := 0#32
  ![v660.toNat, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_217 : BitVec 32 := 2#32
  let v323 : BitVec 32 := Scalar.addi v20 c2_i32_217
  let c0_i32_218 : BitVec 32 := 0#32
  let v324 : BitVec 1 := Scalar.cmpi .sge v323 c0_i32_218
  let c2_i32_219 : BitVec 32 := 2#32
  let v325 : BitVec 32 := Scalar.addi v20 c2_i32_219
  let c3_i32_220 : BitVec 32 := 3#32
  let v326 : BitVec 1 := Scalar.cmpi .sle v325 c3_i32_220
  let v327 : BitVec 1 := Scalar.andi v324 v326
  let v328 : BitVec 32 := Scalar.extui v327
  let c0_i32_221 : BitVec 32 := 0#32
  let v329 : BitVec 1 := Scalar.cmpi .ne v328 c0_i32_221
  v329

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_443 : BitVec 32 := 2#32
  let v648 : BitVec 32 := Scalar.addi v20 c2_i32_443
  let c4_i32_444 : BitVec 32 := 4#32
  let v649 : BitVec 32 := Scalar.muli v648 c4_i32_444
  let c4_i32 : BitVec 32 := 4#32
  let v3 : BitVec 32 := Scalar.remsi v2 c4_i32
  let c0_i32_445 : BitVec 32 := 0#32
  let v650 : BitVec 32 := Scalar.addi v3 c0_i32_445
  let c4_i32_446 : BitVec 32 := 4#32
  let v651 : BitVec 32 := Scalar.addi v650 c4_i32_446
  let c4_i32_447 : BitVec 32 := 4#32
  let v652 : BitVec 32 := Scalar.remsi v651 c4_i32_447
  let v653 : BitVec 32 := Scalar.addi v649 v652
  let c64_i32_453 : BitVec 32 := 64#32
  let v659 : BitVec 32 := Scalar.muli v653 c64_i32_453
  let v660 : Index := Scalar.indexCast v659
  let c0_454 : Index := 0#32
  ![v660.toNat, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m1_i32_222 : BitVec 32 := 4294967295#32
  let v330 : BitVec 32 := Scalar.addi v20 c_m1_i32_222
  let c0_i32_223 : BitVec 32 := 0#32
  let v331 : BitVec 1 := Scalar.cmpi .sge v330 c0_i32_223
  let c_m1_i32_224 : BitVec 32 := 4294967295#32
  let v332 : BitVec 32 := Scalar.addi v20 c_m1_i32_224
  let c3_i32_225 : BitVec 32 := 3#32
  let v333 : BitVec 1 := Scalar.cmpi .sle v332 c3_i32_225
  let v334 : BitVec 1 := Scalar.andi v331 v333
  let v335 : BitVec 32 := Scalar.extui v334
  let c0_i32_226 : BitVec 32 := 0#32
  let v336 : BitVec 1 := Scalar.cmpi .ne v335 c0_i32_226
  v336

def k0_dev39 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_463 : BitVec 32 := 1#32
  let v656 : BitVec 32 := Scalar.muli v24 c1_i32_463
  let v657 : BitVec 32 := Scalar.addi c0_i32_464 v656
  v657.toNat
def k0_dev40 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_517 : BitVec 32 := 1#32
  let v690 : BitVec 32 := Scalar.muli v28 c1_i32_517
  let v691 : BitVec 32 := Scalar.addi c0_i32_518 v690
  v691.toNat
def k0_off7 (d0 : Dev nD) (c_m1_i32_525 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m1_i32_523 : BitVec 32 := 4294967295#32
  let v700 : BitVec 32 := Scalar.addi v20 c_m1_i32_523
  let c4_i32_524 : BitVec 32 := 4#32
  let v701 : BitVec 32 := Scalar.muli v700 c4_i32_524
  let c4_i32 : BitVec 32 := 4#32
  let v3 : BitVec 32 := Scalar.remsi v2 c4_i32
  let v702 : BitVec 32 := Scalar.addi v3 c_m1_i32_525
  let c4_i32_526 : BitVec 32 := 4#32
  let v703 : BitVec 32 := Scalar.addi v702 c4_i32_526
  let c4_i32_527 : BitVec 32 := 4#32
  let v704 : BitVec 32 := Scalar.remsi v703 c4_i32_527
  let v705 : BitVec 32 := Scalar.addi v701 v704
  let c64_i32_533 : BitVec 32 := 64#32
  let v711 : BitVec 32 := Scalar.muli v705 c64_i32_533
  let v712 : Index := Scalar.indexCast v711
  let c0_534 : Index := 0#32
  ![v712.toNat, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_227 : BitVec 32 := 1#32
  let v337 : BitVec 32 := Scalar.addi v20 c1_i32_227
  let c0_i32_228 : BitVec 32 := 0#32
  let v338 : BitVec 1 := Scalar.cmpi .sge v337 c0_i32_228
  let c1_i32_229 : BitVec 32 := 1#32
  let v339 : BitVec 32 := Scalar.addi v20 c1_i32_229
  let c3_i32_230 : BitVec 32 := 3#32
  let v340 : BitVec 1 := Scalar.cmpi .sle v339 c3_i32_230
  let v341 : BitVec 1 := Scalar.andi v338 v340
  let v342 : BitVec 32 := Scalar.extui v341
  let c0_i32_231 : BitVec 32 := 0#32
  let v343 : BitVec 1 := Scalar.cmpi .ne v342 c0_i32_231
  v343

def k0_dev41 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_463 : BitVec 32 := 1#32
  let v656 : BitVec 32 := Scalar.muli v24 c1_i32_463
  let v657 : BitVec 32 := Scalar.addi c0_i32_464 v656
  v657.toNat
def k0_dev42 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_517 : BitVec 32 := 1#32
  let v690 : BitVec 32 := Scalar.muli v28 c1_i32_517
  let v691 : BitVec 32 := Scalar.addi c0_i32_518 v690
  v691.toNat
def k0_off8 (d0 : Dev nD) (c_m1_i32_525 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_523 : BitVec 32 := 1#32
  let v700 : BitVec 32 := Scalar.addi v20 c1_i32_523
  let c4_i32_524 : BitVec 32 := 4#32
  let v701 : BitVec 32 := Scalar.muli v700 c4_i32_524
  let c4_i32 : BitVec 32 := 4#32
  let v3 : BitVec 32 := Scalar.remsi v2 c4_i32
  let v702 : BitVec 32 := Scalar.addi v3 c_m1_i32_525
  let c4_i32_526 : BitVec 32 := 4#32
  let v703 : BitVec 32 := Scalar.addi v702 c4_i32_526
  let c4_i32_527 : BitVec 32 := 4#32
  let v704 : BitVec 32 := Scalar.remsi v703 c4_i32_527
  let v705 : BitVec 32 := Scalar.addi v701 v704
  let c64_i32_533 : BitVec 32 := 64#32
  let v711 : BitVec 32 := Scalar.muli v705 c64_i32_533
  let v712 : Index := Scalar.indexCast v711
  let c0_534 : Index := 0#32
  ![v712.toNat, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_232 : BitVec 32 := 0#32
  let v344 : BitVec 32 := Scalar.addi v20 c0_i32_232
  let c0_i32_233 : BitVec 32 := 0#32
  let v345 : BitVec 1 := Scalar.cmpi .sge v344 c0_i32_233
  let c0_i32_234 : BitVec 32 := 0#32
  let v346 : BitVec 32 := Scalar.addi v20 c0_i32_234
  let c3_i32_235 : BitVec 32 := 3#32
  let v347 : BitVec 1 := Scalar.cmpi .sle v346 c3_i32_235
  let v348 : BitVec 1 := Scalar.andi v345 v347
  let v349 : BitVec 32 := Scalar.extui v348
  let c0_i32_236 : BitVec 32 := 0#32
  let v350 : BitVec 1 := Scalar.cmpi .ne v349 c0_i32_236
  v350

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_469 : BitVec 32 := 0#32
  let v664 : BitVec 32 := Scalar.addi v20 c0_i32_469
  let c4_i32_470 : BitVec 32 := 4#32
  let v665 : BitVec 32 := Scalar.muli v664 c4_i32_470
  let c4_i32 : BitVec 32 := 4#32
  let v3 : BitVec 32 := Scalar.remsi v2 c4_i32
  let c2_i32_471 : BitVec 32 := 2#32
  let v666 : BitVec 32 := Scalar.addi v3 c2_i32_471
  let c4_i32_472 : BitVec 32 := 4#32
  let v667 : BitVec 32 := Scalar.addi v666 c4_i32_472
  let c4_i32_473 : BitVec 32 := 4#32
  let v668 : BitVec 32 := Scalar.remsi v667 c4_i32_473
  let v669 : BitVec 32 := Scalar.addi v665 v668
  let c64_i32_479 : BitVec 32 := 64#32
  let v675 : BitVec 32 := Scalar.muli v669 c64_i32_479
  let v676 : Index := Scalar.indexCast v675
  let c0_480 : Index := 0#32
  ![v676.toNat, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m3_i32_241 : BitVec 32 := 4294967293#32
  let v358 : BitVec 32 := Scalar.addi v20 c_m3_i32_241
  let c0_i32_242 : BitVec 32 := 0#32
  let v359 : BitVec 1 := Scalar.cmpi .sge v358 c0_i32_242
  let c_m3_i32_243 : BitVec 32 := 4294967293#32
  let v360 : BitVec 32 := Scalar.addi v20 c_m3_i32_243
  let c3_i32_244 : BitVec 32 := 3#32
  let v361 : BitVec 1 := Scalar.cmpi .sle v360 c3_i32_244
  let v362 : BitVec 1 := Scalar.andi v359 v361
  let v363 : BitVec 32 := Scalar.extui v362
  let c0_i32_245 : BitVec 32 := 0#32
  let v364 : BitVec 1 := Scalar.cmpi .ne v363 c0_i32_245
  v364

def k0_dev43 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_449 : BitVec 32 := 1#32
  let v648 : BitVec 32 := Scalar.muli v24 c1_i32_449
  let v649 : BitVec 32 := Scalar.addi c0_i32_450 v648
  v649.toNat
def k0_dev44 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_462 : BitVec 32 := 1#32
  let v658 : BitVec 32 := Scalar.muli v28 c1_i32_462
  let v659 : BitVec 32 := Scalar.addi c0_i32_463 v658
  v659.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_251 : BitVec 32 := 3#32
  let v372 : BitVec 32 := Scalar.addi v20 c3_i32_251
  let c0_i32_252 : BitVec 32 := 0#32
  let v373 : BitVec 1 := Scalar.cmpi .sge v372 c0_i32_252
  let c3_i32_253 : BitVec 32 := 3#32
  let v374 : BitVec 32 := Scalar.addi v20 c3_i32_253
  let c3_i32_254 : BitVec 32 := 3#32
  let v375 : BitVec 1 := Scalar.cmpi .sle v374 c3_i32_254
  let v376 : BitVec 1 := Scalar.andi v373 v375
  let v377 : BitVec 32 := Scalar.extui v376
  let c0_i32_255 : BitVec 32 := 0#32
  let v378 : BitVec 1 := Scalar.cmpi .ne v377 c0_i32_255
  v378

def k0_dev45 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_450 : BitVec 32 := 1#32
  let v648 : BitVec 32 := Scalar.muli v24 c1_i32_450
  let v649 : BitVec 32 := Scalar.addi c0_i32_451 v648
  v649.toNat
def k0_dev46 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_463 : BitVec 32 := 1#32
  let v658 : BitVec 32 := Scalar.muli v28 c1_i32_463
  let v659 : BitVec 32 := Scalar.addi c0_i32_464 v658
  v659.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m3_i32_261 : BitVec 32 := 4294967293#32
  let v386 : BitVec 32 := Scalar.addi v20 c_m3_i32_261
  let c0_i32_262 : BitVec 32 := 0#32
  let v387 : BitVec 1 := Scalar.cmpi .sge v386 c0_i32_262
  let c_m3_i32_263 : BitVec 32 := 4294967293#32
  let v388 : BitVec 32 := Scalar.addi v20 c_m3_i32_263
  let c3_i32_264 : BitVec 32 := 3#32
  let v389 : BitVec 1 := Scalar.cmpi .sle v388 c3_i32_264
  let v390 : BitVec 1 := Scalar.andi v387 v389
  let v391 : BitVec 32 := Scalar.extui v390
  let c0_i32_265 : BitVec 32 := 0#32
  let v392 : BitVec 1 := Scalar.cmpi .ne v391 c0_i32_265
  v392

def k0_dev47 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_449 : BitVec 32 := 1#32
  let v648 : BitVec 32 := Scalar.muli v24 c1_i32_449
  let v649 : BitVec 32 := Scalar.addi c0_i32_450 v648
  v649.toNat
def k0_dev48 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_461 : BitVec 32 := 1#32
  let v658 : BitVec 32 := Scalar.muli v28 c1_i32_461
  let v659 : BitVec 32 := Scalar.addi c0_i32_462 v658
  v659.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_271 : BitVec 32 := 3#32
  let v400 : BitVec 32 := Scalar.addi v20 c3_i32_271
  let c0_i32_272 : BitVec 32 := 0#32
  let v401 : BitVec 1 := Scalar.cmpi .sge v400 c0_i32_272
  let c3_i32_273 : BitVec 32 := 3#32
  let v402 : BitVec 32 := Scalar.addi v20 c3_i32_273
  let c3_i32_274 : BitVec 32 := 3#32
  let v403 : BitVec 1 := Scalar.cmpi .sle v402 c3_i32_274
  let v404 : BitVec 1 := Scalar.andi v401 v403
  let v405 : BitVec 32 := Scalar.extui v404
  let c0_i32_275 : BitVec 32 := 0#32
  let v406 : BitVec 1 := Scalar.cmpi .ne v405 c0_i32_275
  v406

def k0_dev49 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_450 : BitVec 32 := 1#32
  let v648 : BitVec 32 := Scalar.muli v24 c1_i32_450
  let v649 : BitVec 32 := Scalar.addi c0_i32_451 v648
  v649.toNat
def k0_dev50 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_462 : BitVec 32 := 1#32
  let v658 : BitVec 32 := Scalar.muli v28 c1_i32_462
  let v659 : BitVec 32 := Scalar.addi c0_i32_463 v658
  v659.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m3_i32_276 : BitVec 32 := 4294967293#32
  let v407 : BitVec 32 := Scalar.addi v20 c_m3_i32_276
  let c0_i32_277 : BitVec 32 := 0#32
  let v408 : BitVec 1 := Scalar.cmpi .sge v407 c0_i32_277
  let c_m3_i32_278 : BitVec 32 := 4294967293#32
  let v409 : BitVec 32 := Scalar.addi v20 c_m3_i32_278
  let c3_i32_279 : BitVec 32 := 3#32
  let v410 : BitVec 1 := Scalar.cmpi .sle v409 c3_i32_279
  let v411 : BitVec 1 := Scalar.andi v408 v410
  let v412 : BitVec 32 := Scalar.extui v411
  let c0_i32_280 : BitVec 32 := 0#32
  let v413 : BitVec 1 := Scalar.cmpi .ne v412 c0_i32_280
  v413

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m3_i32_443 : BitVec 32 := 4294967293#32
  let v648 : BitVec 32 := Scalar.addi v20 c_m3_i32_443
  let c4_i32_444 : BitVec 32 := 4#32
  let v649 : BitVec 32 := Scalar.muli v648 c4_i32_444
  let c4_i32 : BitVec 32 := 4#32
  let v3 : BitVec 32 := Scalar.remsi v2 c4_i32
  let c0_i32_445 : BitVec 32 := 0#32
  let v650 : BitVec 32 := Scalar.addi v3 c0_i32_445
  let c4_i32_446 : BitVec 32 := 4#32
  let v651 : BitVec 32 := Scalar.addi v650 c4_i32_446
  let c4_i32_447 : BitVec 32 := 4#32
  let v652 : BitVec 32 := Scalar.remsi v651 c4_i32_447
  let v653 : BitVec 32 := Scalar.addi v649 v652
  let c64_i32_453 : BitVec 32 := 64#32
  let v659 : BitVec 32 := Scalar.muli v653 c64_i32_453
  let v660 : Index := Scalar.indexCast v659
  let c0_454 : Index := 0#32
  ![v660.toNat, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_281 : BitVec 32 := 3#32
  let v414 : BitVec 32 := Scalar.addi v20 c3_i32_281
  let c0_i32_282 : BitVec 32 := 0#32
  let v415 : BitVec 1 := Scalar.cmpi .sge v414 c0_i32_282
  let c3_i32_283 : BitVec 32 := 3#32
  let v416 : BitVec 32 := Scalar.addi v20 c3_i32_283
  let c3_i32_284 : BitVec 32 := 3#32
  let v417 : BitVec 1 := Scalar.cmpi .sle v416 c3_i32_284
  let v418 : BitVec 1 := Scalar.andi v415 v417
  let v419 : BitVec 32 := Scalar.extui v418
  let c0_i32_285 : BitVec 32 := 0#32
  let v420 : BitVec 1 := Scalar.cmpi .ne v419 c0_i32_285
  v420

def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_443 : BitVec 32 := 3#32
  let v648 : BitVec 32 := Scalar.addi v20 c3_i32_443
  let c4_i32_444 : BitVec 32 := 4#32
  let v649 : BitVec 32 := Scalar.muli v648 c4_i32_444
  let c4_i32 : BitVec 32 := 4#32
  let v3 : BitVec 32 := Scalar.remsi v2 c4_i32
  let c0_i32_445 : BitVec 32 := 0#32
  let v650 : BitVec 32 := Scalar.addi v3 c0_i32_445
  let c4_i32_446 : BitVec 32 := 4#32
  let v651 : BitVec 32 := Scalar.addi v650 c4_i32_446
  let c4_i32_447 : BitVec 32 := 4#32
  let v652 : BitVec 32 := Scalar.remsi v651 c4_i32_447
  let v653 : BitVec 32 := Scalar.addi v649 v652
  let c64_i32_453 : BitVec 32 := 64#32
  let v659 : BitVec 32 := Scalar.muli v653 c64_i32_453
  let v660 : Index := Scalar.indexCast v659
  let c0_454 : Index := 0#32
  ![v660.toNat, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m2_i32_286 : BitVec 32 := 4294967294#32
  let v421 : BitVec 32 := Scalar.addi v20 c_m2_i32_286
  let c0_i32_287 : BitVec 32 := 0#32
  let v422 : BitVec 1 := Scalar.cmpi .sge v421 c0_i32_287
  let c_m2_i32_288 : BitVec 32 := 4294967294#32
  let v423 : BitVec 32 := Scalar.addi v20 c_m2_i32_288
  let c3_i32_289 : BitVec 32 := 3#32
  let v424 : BitVec 1 := Scalar.cmpi .sle v423 c3_i32_289
  let v425 : BitVec 1 := Scalar.andi v422 v424
  let v426 : BitVec 32 := Scalar.extui v425
  let c0_i32_290 : BitVec 32 := 0#32
  let v427 : BitVec 1 := Scalar.cmpi .ne v426 c0_i32_290
  v427

def k0_dev51 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_462 : BitVec 32 := 1#32
  let v656 : BitVec 32 := Scalar.muli v24 c1_i32_462
  let v657 : BitVec 32 := Scalar.addi c0_i32_463 v656
  v657.toNat
def k0_dev52 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_516 : BitVec 32 := 1#32
  let v690 : BitVec 32 := Scalar.muli v28 c1_i32_516
  let v691 : BitVec 32 := Scalar.addi c0_i32_517 v690
  v691.toNat
def k0_off12 (d0 : Dev nD) (c_m1_i32_524 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m2_i32_522 : BitVec 32 := 4294967294#32
  let v700 : BitVec 32 := Scalar.addi v20 c_m2_i32_522
  let c4_i32_523 : BitVec 32 := 4#32
  let v701 : BitVec 32 := Scalar.muli v700 c4_i32_523
  let c4_i32 : BitVec 32 := 4#32
  let v3 : BitVec 32 := Scalar.remsi v2 c4_i32
  let v702 : BitVec 32 := Scalar.addi v3 c_m1_i32_524
  let c4_i32_525 : BitVec 32 := 4#32
  let v703 : BitVec 32 := Scalar.addi v702 c4_i32_525
  let c4_i32_526 : BitVec 32 := 4#32
  let v704 : BitVec 32 := Scalar.remsi v703 c4_i32_526
  let v705 : BitVec 32 := Scalar.addi v701 v704
  let c64_i32_532 : BitVec 32 := 64#32
  let v711 : BitVec 32 := Scalar.muli v705 c64_i32_532
  let v712 : Index := Scalar.indexCast v711
  let c0_533 : Index := 0#32
  ![v712.toNat, 0]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_291 : BitVec 32 := 2#32
  let v428 : BitVec 32 := Scalar.addi v20 c2_i32_291
  let c0_i32_292 : BitVec 32 := 0#32
  let v429 : BitVec 1 := Scalar.cmpi .sge v428 c0_i32_292
  let c2_i32_293 : BitVec 32 := 2#32
  let v430 : BitVec 32 := Scalar.addi v20 c2_i32_293
  let c3_i32_294 : BitVec 32 := 3#32
  let v431 : BitVec 1 := Scalar.cmpi .sle v430 c3_i32_294
  let v432 : BitVec 1 := Scalar.andi v429 v431
  let v433 : BitVec 32 := Scalar.extui v432
  let c0_i32_295 : BitVec 32 := 0#32
  let v434 : BitVec 1 := Scalar.cmpi .ne v433 c0_i32_295
  v434

def k0_dev53 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_463 : BitVec 32 := 1#32
  let v656 : BitVec 32 := Scalar.muli v24 c1_i32_463
  let v657 : BitVec 32 := Scalar.addi c0_i32_464 v656
  v657.toNat
def k0_dev54 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_518 : BitVec 32 := 1#32
  let v690 : BitVec 32 := Scalar.muli v28 c1_i32_518
  let v691 : BitVec 32 := Scalar.addi c0_i32_519 v690
  v691.toNat
def k0_off13 (d0 : Dev nD) (c_m1_i32_526 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_524 : BitVec 32 := 2#32
  let v700 : BitVec 32 := Scalar.addi v20 c2_i32_524
  let c4_i32_525 : BitVec 32 := 4#32
  let v701 : BitVec 32 := Scalar.muli v700 c4_i32_525
  let c4_i32 : BitVec 32 := 4#32
  let v3 : BitVec 32 := Scalar.remsi v2 c4_i32
  let v702 : BitVec 32 := Scalar.addi v3 c_m1_i32_526
  let c4_i32_527 : BitVec 32 := 4#32
  let v703 : BitVec 32 := Scalar.addi v702 c4_i32_527
  let c4_i32_528 : BitVec 32 := 4#32
  let v704 : BitVec 32 := Scalar.remsi v703 c4_i32_528
  let v705 : BitVec 32 := Scalar.addi v701 v704
  let c64_i32_534 : BitVec 32 := 64#32
  let v711 : BitVec 32 := Scalar.muli v705 c64_i32_534
  let v712 : Index := Scalar.indexCast v711
  let c0_535 : Index := 0#32
  ![v712.toNat, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m1_i32_296 : BitVec 32 := 4294967295#32
  let v435 : BitVec 32 := Scalar.addi v20 c_m1_i32_296
  let c0_i32_297 : BitVec 32 := 0#32
  let v436 : BitVec 1 := Scalar.cmpi .sge v435 c0_i32_297
  let c_m1_i32_298 : BitVec 32 := 4294967295#32
  let v437 : BitVec 32 := Scalar.addi v20 c_m1_i32_298
  let c3_i32_299 : BitVec 32 := 3#32
  let v438 : BitVec 1 := Scalar.cmpi .sle v437 c3_i32_299
  let v439 : BitVec 1 := Scalar.andi v436 v438
  let v440 : BitVec 32 := Scalar.extui v439
  let c0_i32_300 : BitVec 32 := 0#32
  let v441 : BitVec 1 := Scalar.cmpi .ne v440 c0_i32_300
  v441

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m1_i32_469 : BitVec 32 := 4294967295#32
  let v664 : BitVec 32 := Scalar.addi v20 c_m1_i32_469
  let c4_i32_470 : BitVec 32 := 4#32
  let v665 : BitVec 32 := Scalar.muli v664 c4_i32_470
  let c4_i32 : BitVec 32 := 4#32
  let v3 : BitVec 32 := Scalar.remsi v2 c4_i32
  let c2_i32_471 : BitVec 32 := 2#32
  let v666 : BitVec 32 := Scalar.addi v3 c2_i32_471
  let c4_i32_472 : BitVec 32 := 4#32
  let v667 : BitVec 32 := Scalar.addi v666 c4_i32_472
  let c4_i32_473 : BitVec 32 := 4#32
  let v668 : BitVec 32 := Scalar.remsi v667 c4_i32_473
  let v669 : BitVec 32 := Scalar.addi v665 v668
  let c64_i32_479 : BitVec 32 := 64#32
  let v675 : BitVec 32 := Scalar.muli v669 c64_i32_479
  let v676 : Index := Scalar.indexCast v675
  let c0_480 : Index := 0#32
  ![v676.toNat, 0]
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_301 : BitVec 32 := 1#32
  let v442 : BitVec 32 := Scalar.addi v20 c1_i32_301
  let c0_i32_302 : BitVec 32 := 0#32
  let v443 : BitVec 1 := Scalar.cmpi .sge v442 c0_i32_302
  let c1_i32_303 : BitVec 32 := 1#32
  let v444 : BitVec 32 := Scalar.addi v20 c1_i32_303
  let c3_i32_304 : BitVec 32 := 3#32
  let v445 : BitVec 1 := Scalar.cmpi .sle v444 c3_i32_304
  let v446 : BitVec 1 := Scalar.andi v443 v445
  let v447 : BitVec 32 := Scalar.extui v446
  let c0_i32_305 : BitVec 32 := 0#32
  let v448 : BitVec 1 := Scalar.cmpi .ne v447 c0_i32_305
  v448

def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_469 : BitVec 32 := 1#32
  let v664 : BitVec 32 := Scalar.addi v20 c1_i32_469
  let c4_i32_470 : BitVec 32 := 4#32
  let v665 : BitVec 32 := Scalar.muli v664 c4_i32_470
  let c4_i32 : BitVec 32 := 4#32
  let v3 : BitVec 32 := Scalar.remsi v2 c4_i32
  let c2_i32_471 : BitVec 32 := 2#32
  let v666 : BitVec 32 := Scalar.addi v3 c2_i32_471
  let c4_i32_472 : BitVec 32 := 4#32
  let v667 : BitVec 32 := Scalar.addi v666 c4_i32_472
  let c4_i32_473 : BitVec 32 := 4#32
  let v668 : BitVec 32 := Scalar.remsi v667 c4_i32_473
  let v669 : BitVec 32 := Scalar.addi v665 v668
  let c64_i32_479 : BitVec 32 := 64#32
  let v675 : BitVec 32 := Scalar.muli v669 c64_i32_479
  let v676 : Index := Scalar.indexCast v675
  let c0_480 : Index := 0#32
  ![v676.toNat, 0]
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m3_i32_306 : BitVec 32 := 4294967293#32
  let v449 : BitVec 32 := Scalar.addi v20 c_m3_i32_306
  let c0_i32_307 : BitVec 32 := 0#32
  let v450 : BitVec 1 := Scalar.cmpi .sge v449 c0_i32_307
  let c_m3_i32_308 : BitVec 32 := 4294967293#32
  let v451 : BitVec 32 := Scalar.addi v20 c_m3_i32_308
  let c3_i32_309 : BitVec 32 := 3#32
  let v452 : BitVec 1 := Scalar.cmpi .sle v451 c3_i32_309
  let v453 : BitVec 1 := Scalar.andi v450 v452
  let v454 : BitVec 32 := Scalar.extui v453
  let c0_i32_310 : BitVec 32 := 0#32
  let v455 : BitVec 1 := Scalar.cmpi .ne v454 c0_i32_310
  v455

def k0_dev55 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_462 : BitVec 32 := 1#32
  let v656 : BitVec 32 := Scalar.muli v24 c1_i32_462
  let v657 : BitVec 32 := Scalar.addi c0_i32_463 v656
  v657.toNat
def k0_dev56 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_516 : BitVec 32 := 1#32
  let v690 : BitVec 32 := Scalar.muli v28 c1_i32_516
  let v691 : BitVec 32 := Scalar.addi c0_i32_517 v690
  v691.toNat
def k0_off16 (d0 : Dev nD) (c_m1_i32_524 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m3_i32_522 : BitVec 32 := 4294967293#32
  let v700 : BitVec 32 := Scalar.addi v20 c_m3_i32_522
  let c4_i32_523 : BitVec 32 := 4#32
  let v701 : BitVec 32 := Scalar.muli v700 c4_i32_523
  let c4_i32 : BitVec 32 := 4#32
  let v3 : BitVec 32 := Scalar.remsi v2 c4_i32
  let v702 : BitVec 32 := Scalar.addi v3 c_m1_i32_524
  let c4_i32_525 : BitVec 32 := 4#32
  let v703 : BitVec 32 := Scalar.addi v702 c4_i32_525
  let c4_i32_526 : BitVec 32 := 4#32
  let v704 : BitVec 32 := Scalar.remsi v703 c4_i32_526
  let v705 : BitVec 32 := Scalar.addi v701 v704
  let c64_i32_532 : BitVec 32 := 64#32
  let v711 : BitVec 32 := Scalar.muli v705 c64_i32_532
  let v712 : Index := Scalar.indexCast v711
  let c0_533 : Index := 0#32
  ![v712.toNat, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_311 : BitVec 32 := 3#32
  let v456 : BitVec 32 := Scalar.addi v20 c3_i32_311
  let c0_i32_312 : BitVec 32 := 0#32
  let v457 : BitVec 1 := Scalar.cmpi .sge v456 c0_i32_312
  let c3_i32_313 : BitVec 32 := 3#32
  let v458 : BitVec 32 := Scalar.addi v20 c3_i32_313
  let c3_i32_314 : BitVec 32 := 3#32
  let v459 : BitVec 1 := Scalar.cmpi .sle v458 c3_i32_314
  let v460 : BitVec 1 := Scalar.andi v457 v459
  let v461 : BitVec 32 := Scalar.extui v460
  let c0_i32_315 : BitVec 32 := 0#32
  let v462 : BitVec 1 := Scalar.cmpi .ne v461 c0_i32_315
  v462

def k0_dev57 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_463 : BitVec 32 := 1#32
  let v656 : BitVec 32 := Scalar.muli v24 c1_i32_463
  let v657 : BitVec 32 := Scalar.addi c0_i32_464 v656
  v657.toNat
def k0_dev58 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_9 : BitVec 32 := 4#32
  let v25 : BitVec 32 := Scalar.muli v20 c4_i32_9
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_517 : BitVec 32 := 1#32
  let v690 : BitVec 32 := Scalar.muli v28 c1_i32_517
  let v691 : BitVec 32 := Scalar.addi c0_i32_518 v690
  v691.toNat
def k0_off17 (d0 : Dev nD) (c_m1_i32_525 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_523 : BitVec 32 := 3#32
  let v700 : BitVec 32 := Scalar.addi v20 c3_i32_523
  let c4_i32_524 : BitVec 32 := 4#32
  let v701 : BitVec 32 := Scalar.muli v700 c4_i32_524
  let c4_i32 : BitVec 32 := 4#32
  let v3 : BitVec 32 := Scalar.remsi v2 c4_i32
  let v702 : BitVec 32 := Scalar.addi v3 c_m1_i32_525
  let c4_i32_526 : BitVec 32 := 4#32
  let v703 : BitVec 32 := Scalar.addi v702 c4_i32_526
  let c4_i32_527 : BitVec 32 := 4#32
  let v704 : BitVec 32 := Scalar.remsi v703 c4_i32_527
  let v705 : BitVec 32 := Scalar.addi v701 v704
  let c64_i32_533 : BitVec 32 := 64#32
  let v711 : BitVec 32 := Scalar.muli v705 c64_i32_533
  let v712 : Index := Scalar.indexCast v711
  let c0_534 : Index := 0#32
  ![v712.toNat, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m2_i32_316 : BitVec 32 := 4294967294#32
  let v463 : BitVec 32 := Scalar.addi v20 c_m2_i32_316
  let c0_i32_317 : BitVec 32 := 0#32
  let v464 : BitVec 1 := Scalar.cmpi .sge v463 c0_i32_317
  let c_m2_i32_318 : BitVec 32 := 4294967294#32
  let v465 : BitVec 32 := Scalar.addi v20 c_m2_i32_318
  let c3_i32_319 : BitVec 32 := 3#32
  let v466 : BitVec 1 := Scalar.cmpi .sle v465 c3_i32_319
  let v467 : BitVec 1 := Scalar.andi v464 v466
  let v468 : BitVec 32 := Scalar.extui v467
  let c0_i32_320 : BitVec 32 := 0#32
  let v469 : BitVec 1 := Scalar.cmpi .ne v468 c0_i32_320
  v469

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m2_i32_468 : BitVec 32 := 4294967294#32
  let v664 : BitVec 32 := Scalar.addi v20 c_m2_i32_468
  let c4_i32_469 : BitVec 32 := 4#32
  let v665 : BitVec 32 := Scalar.muli v664 c4_i32_469
  let c4_i32 : BitVec 32 := 4#32
  let v3 : BitVec 32 := Scalar.remsi v2 c4_i32
  let c2_i32_470 : BitVec 32 := 2#32
  let v666 : BitVec 32 := Scalar.addi v3 c2_i32_470
  let c4_i32_471 : BitVec 32 := 4#32
  let v667 : BitVec 32 := Scalar.addi v666 c4_i32_471
  let c4_i32_472 : BitVec 32 := 4#32
  let v668 : BitVec 32 := Scalar.remsi v667 c4_i32_472
  let v669 : BitVec 32 := Scalar.addi v665 v668
  let c64_i32_478 : BitVec 32 := 64#32
  let v675 : BitVec 32 := Scalar.muli v669 c64_i32_478
  let v676 : Index := Scalar.indexCast v675
  let c0_479 : Index := 0#32
  ![v676.toNat, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_321 : BitVec 32 := 2#32
  let v470 : BitVec 32 := Scalar.addi v20 c2_i32_321
  let c0_i32_322 : BitVec 32 := 0#32
  let v471 : BitVec 1 := Scalar.cmpi .sge v470 c0_i32_322
  let c2_i32_323 : BitVec 32 := 2#32
  let v472 : BitVec 32 := Scalar.addi v20 c2_i32_323
  let c3_i32_324 : BitVec 32 := 3#32
  let v473 : BitVec 1 := Scalar.cmpi .sle v472 c3_i32_324
  let v474 : BitVec 1 := Scalar.andi v471 v473
  let v475 : BitVec 32 := Scalar.extui v474
  let c0_i32_325 : BitVec 32 := 0#32
  let v476 : BitVec 1 := Scalar.cmpi .ne v475 c0_i32_325
  v476

def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_469 : BitVec 32 := 2#32
  let v664 : BitVec 32 := Scalar.addi v20 c2_i32_469
  let c4_i32_470 : BitVec 32 := 4#32
  let v665 : BitVec 32 := Scalar.muli v664 c4_i32_470
  let c4_i32 : BitVec 32 := 4#32
  let v3 : BitVec 32 := Scalar.remsi v2 c4_i32
  let c2_i32_471 : BitVec 32 := 2#32
  let v666 : BitVec 32 := Scalar.addi v3 c2_i32_471
  let c4_i32_472 : BitVec 32 := 4#32
  let v667 : BitVec 32 := Scalar.addi v666 c4_i32_472
  let c4_i32_473 : BitVec 32 := 4#32
  let v668 : BitVec 32 := Scalar.remsi v667 c4_i32_473
  let v669 : BitVec 32 := Scalar.addi v665 v668
  let c64_i32_479 : BitVec 32 := 64#32
  let v675 : BitVec 32 := Scalar.muli v669 c64_i32_479
  let v676 : Index := Scalar.indexCast v675
  let c0_480 : Index := 0#32
  ![v676.toNat, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m3_i32_326 : BitVec 32 := 4294967293#32
  let v477 : BitVec 32 := Scalar.addi v20 c_m3_i32_326
  let c0_i32_327 : BitVec 32 := 0#32
  let v478 : BitVec 1 := Scalar.cmpi .sge v477 c0_i32_327
  let c_m3_i32_328 : BitVec 32 := 4294967293#32
  let v479 : BitVec 32 := Scalar.addi v20 c_m3_i32_328
  let c3_i32_329 : BitVec 32 := 3#32
  let v480 : BitVec 1 := Scalar.cmpi .sle v479 c3_i32_329
  let v481 : BitVec 1 := Scalar.andi v478 v480
  let v482 : BitVec 32 := Scalar.extui v481
  let c0_i32_330 : BitVec 32 := 0#32
  let v483 : BitVec 1 := Scalar.cmpi .ne v482 c0_i32_330
  v483

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m3_i32_468 : BitVec 32 := 4294967293#32
  let v664 : BitVec 32 := Scalar.addi v20 c_m3_i32_468
  let c4_i32_469 : BitVec 32 := 4#32
  let v665 : BitVec 32 := Scalar.muli v664 c4_i32_469
  let c4_i32 : BitVec 32 := 4#32
  let v3 : BitVec 32 := Scalar.remsi v2 c4_i32
  let c2_i32_470 : BitVec 32 := 2#32
  let v666 : BitVec 32 := Scalar.addi v3 c2_i32_470
  let c4_i32_471 : BitVec 32 := 4#32
  let v667 : BitVec 32 := Scalar.addi v666 c4_i32_471
  let c4_i32_472 : BitVec 32 := 4#32
  let v668 : BitVec 32 := Scalar.remsi v667 c4_i32_472
  let v669 : BitVec 32 := Scalar.addi v665 v668
  let c64_i32_478 : BitVec 32 := 64#32
  let v675 : BitVec 32 := Scalar.muli v669 c64_i32_478
  let v676 : Index := Scalar.indexCast v675
  let c0_479 : Index := 0#32
  ![v676.toNat, 0]
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_331 : BitVec 32 := 3#32
  let v484 : BitVec 32 := Scalar.addi v20 c3_i32_331
  let c0_i32_332 : BitVec 32 := 0#32
  let v485 : BitVec 1 := Scalar.cmpi .sge v484 c0_i32_332
  let c3_i32_333 : BitVec 32 := 3#32
  let v486 : BitVec 32 := Scalar.addi v20 c3_i32_333
  let c3_i32_334 : BitVec 32 := 3#32
  let v487 : BitVec 1 := Scalar.cmpi .sle v486 c3_i32_334
  let v488 : BitVec 1 := Scalar.andi v485 v487
  let v489 : BitVec 32 := Scalar.extui v488
  let c0_i32_335 : BitVec 32 := 0#32
  let v490 : BitVec 1 := Scalar.cmpi .ne v489 c0_i32_335
  v490

def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_469 : BitVec 32 := 3#32
  let v664 : BitVec 32 := Scalar.addi v20 c3_i32_469
  let c4_i32_470 : BitVec 32 := 4#32
  let v665 : BitVec 32 := Scalar.muli v664 c4_i32_470
  let c4_i32 : BitVec 32 := 4#32
  let v3 : BitVec 32 := Scalar.remsi v2 c4_i32
  let c2_i32_471 : BitVec 32 := 2#32
  let v666 : BitVec 32 := Scalar.addi v3 c2_i32_471
  let c4_i32_472 : BitVec 32 := 4#32
  let v667 : BitVec 32 := Scalar.addi v666 c4_i32_472
  let c4_i32_473 : BitVec 32 := 4#32
  let v668 : BitVec 32 := Scalar.remsi v667 c4_i32_473
  let v669 : BitVec 32 := Scalar.addi v665 v668
  let c64_i32_479 : BitVec 32 := 64#32
  let v675 : BitVec 32 := Scalar.muli v669 c64_i32_479
  let v676 : Index := Scalar.indexCast v675
  let c0_480 : Index := 0#32
  ![v676.toNat, 0]
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Plan.lean ====
/-
# 01_k — the plan of the gather: who sends which half of a slot to whom, and in which order each device works

Sixteen devices in four groups of four: device `c` is number `c % 4` of group `c / 4`. Each device's scratch buffer has 28
slots of 64 rows, each slot in two halves of 32 rows. Slot `7 * b + d` of device `c` is to hold the block of `x` that
belongs to device `origin c (7 * b + d)`: the group `d` says (0 own, 1 2 3 that many groups above, 4 5 6 that many below
plus three) and the place `b` says (0 own, 1 the left neighbour, 2 the right one, 3 the opposite one).

There are 54 kinds of remote copies, numbered by the half slot they fill:
* 0..5 travel up one group, fill slots 4, 5, 6 (two halves each);
* 6..11 travel down one group, fill slots 1, 2, 3;
* 12..25 travel right, fill slots 7..13; 26..39 travel left, fill slots 14..20;
* 40..46 travel right, fill the first halves of slots 21..27; 47..53 travel left, fill their second halves.
Halves 54 and 55 are the two of slot 0, which a device fills itself.

Every device goes through the same list of 198 events in the same order, leaving out those that do not concern it. All
facts about the plan are finite and checked by evaluation.
-/
module

public import proofs.«01_k».proof.Proof.Gen.KernelIdeal

@[expose] public section

namespace Cert.KernelIdeal.Plan

open Idealize.ShloMosaic

/-! ## Devices and directions -/

/-- The device one step away: up one group (0), down one group (1), right (2), left (3), all four as rotations. -/
def step (a : Fin 4) (c : Fin 16) : Fin 16 :=
  match a with
  | 0 => ⟨(c.val + 4) % 16, Nat.mod_lt _ (by decide)⟩
  | 1 => ⟨(c.val + 12) % 16, Nat.mod_lt _ (by decide)⟩
  | 2 => ⟨4 * (c.val / 4) + (c.val + 1) % 4, by omega⟩
  | 3 => ⟨4 * (c.val / 4) + (c.val + 3) % 4, by omega⟩

/-- The opposite direction. -/
def opp (a : Fin 4) : Fin 4 := match a with | 0 => 1 | 1 => 0 | 2 => 3 | 3 => 2

theorem step_opp (a : Fin 4) (c : Fin 16) : step (opp a) (step a c) = c := by revert a c; decide
theorem opp_step (a : Fin 4) (c : Fin 16) : step a (step (opp a) c) = c := by revert a c; decide

/-- One step in a direction, as a permutation of the devices. -/
def stepEquiv (a : Fin 4) : Fin 16 ≃ Fin 16 := ⟨step a, step (opp a), step_opp a, opp_step a⟩

/-- The group a slot of family `d` belongs to lies inside the grid for device `c`. -/
def valid (c : Fin 16) (d : ℕ) : Bool :=
  if d = 0 then true else if d ≤ 3 then decide (c.val / 4 + d ≤ 3) else decide (d ≤ c.val / 4 + 3)

/-! ## Half slots and copies -/

/-- The slot of a half slot. -/
def slotOf (r : Fin 56) : ℕ :=
  if r.val < 6 then 4 + r.val / 2 else if r.val < 12 then 1 + (r.val - 6) / 2
  else if r.val < 40 then 7 * (1 + (r.val - 12) / 14) + (r.val - 12) % 14 / 2
  else if r.val < 54 then 21 + (r.val - 40) % 7 else 0

/-- Which half of its slot it is. -/
def halfOf (r : Fin 56) : ℕ :=
  if r.val < 40 then r.val % 2 else if r.val < 54 then (r.val - 40) / 7 else r.val - 54

/-- The first row of the half within its slot. -/
def rowOf (r : Fin 56) : ℕ := 32 * halfOf r

/-- The half slot a copy fills. -/
def dstHalf (X : Fin 54) : Fin 56 := ⟨X.val, by omega⟩

/-- The half slot (of the sender) a copy reads, as a number -/
def srcNum (x : ℕ) : ℕ :=
  if x < 2 then 54 + x else if x < 6 then x - 2 else if x < 8 then 48 + x else if x < 12 then x - 2
  else if x < 40 then
    (if (x - 12) % 14 < 2 then 54 + x % 2 else if (x - 12) % 14 < 8 then 4 + (x - 12) % 14 else (x - 12) % 14 - 8)
  else if x < 47 then 12 + 2 * (x - 40) else 27 + 2 * (x - 47)

/-- and as one of the 56. -/
def srcHalf (X : Fin 54) : Fin 56 := ⟨srcNum X.val % 56, Nat.mod_lt _ (by decide)⟩

/-- The direction a copy travels. -/
def dirOf (X : Fin 54) : Fin 4 :=
  if X.val < 6 then 0 else if X.val < 12 then 1 else if X.val < 26 then 2 else if X.val < 40 then 3
  else if X.val < 47 then 2 else 3

/-- A copy is told by the half it reads and the direction it travels. -/
theorem src_dir_inj (X Y : Fin 54) (h₁ : srcHalf X = srcHalf Y) (h₂ : dirOf X = dirOf Y) : X = Y := by
  revert X Y; decide +kernel

/-- Device `c` receives copy `X`. -/
def land (c : Fin 16) (X : Fin 54) : Bool := valid c (slotOf (dstHalf X) % 7)

/-- The device copy `X` goes to from `c`; -/
def dst (c : Fin 16) (X : Fin 54) : Fin 16 := step (dirOf X) c

/-- device `c` sends copy `X`. -/
def act (c : Fin 16) (X : Fin 54) : Bool := land (dst c X) X

/-- The half slot gets filled at `c`. -/
def filled (c : Fin 16) (r : Fin 56) : Bool := if r.val < 54 then valid c (slotOf r % 7) else true

/-- The device whose block of `x` slot `k` of device `c` is to hold. -/
def origin (c : Fin 16) (k : ℕ) : Fin 16 :=
  ⟨4 * ((c.val / 4 + (if k % 7 ≤ 3 then k % 7 else 7 - k % 7)) % 4) + 0 +
    (c.val + (if k / 7 = 0 then 0 else if k / 7 = 1 then 3 else if k / 7 = 2 then 1 else 2)) % 4, by omega⟩

/-! ## The handshake: six signals, each device sends and receives four -/

/-- Device `c` sends signal `i`: to the left, to the right, up, down, and to itself at either end of the column. -/
def sigOn (c : Fin 16) (i : Fin 6) : Bool :=
  if i.val < 2 then true else if i.val = 2 then decide (c.val / 4 < 3) else if i.val = 3 then decide (0 < c.val / 4)
  else if i.val = 4 then decide (c.val / 4 = 0) else decide (c.val / 4 = 3)

/-- The device signal `i` of `c` goes to, -/
def sigDst (c : Fin 16) (i : Fin 6) : Fin 16 :=
  if i.val = 0 then step 3 c else if i.val = 1 then step 2 c else if i.val = 2 then step 0 c else if i.val = 3 then step 1 c else c

/-- the device it comes from, -/
def sigSrc (c : Fin 16) (i : Fin 6) : Fin 16 :=
  if i.val = 0 then step 2 c else if i.val = 1 then step 3 c else if i.val = 2 then step 1 c else if i.val = 3 then step 0 c else c

theorem sigSrc_dst (i : Fin 6) (c : Fin 16) : sigSrc (sigDst c i) i = c := by revert i c; decide
theorem sigDst_src (i : Fin 6) (c : Fin 16) : sigDst (sigSrc c i) i = c := by revert i c; decide

/-- Signal `i`, as a permutation of the devices. -/
def sigEquiv (i : Fin 6) : Fin 16 ≃ Fin 16 := ⟨fun c => sigDst c i, fun c => sigSrc c i, sigSrc_dst i, sigDst_src i⟩

/-- signal `i` lets its receiver send copy `X`. -/
def lets (i : Fin 6) (X : Fin 54) : Bool :=
  if i.val = 0 then decide (dirOf X = 2) else if i.val = 1 then decide (dirOf X = 3) else if i.val = 2 then decide (dirOf X = 1)
  else if i.val = 3 then decide (dirOf X = 0) else false

/-- The signals a device receives. -/
def sigs (c : Fin 16) : Finset (Fin 6) := Finset.univ.filter fun i => sigOn (sigSrc c i) i = true

theorem sigs_card (c : Fin 16) : (sigs c).card = 4 := by revert c; decide
theorem mem_sigs (c : Fin 16) (i : Fin 6) : i ∈ sigs c ↔ sigOn (sigSrc c i) i = true := by simp [sigs]
theorem sig_mem (c : Fin 16) (i : Fin 6) (h : sigOn c i = true) : i ∈ sigs (sigDst c i) := by
  rw [mem_sigs, sigSrc_dst]; exact h

/-- The signal that lets `X` be sent. -/
def letter (X : Fin 54) : Fin 6 := match dirOf X with | 0 => 3 | 1 => 2 | 2 => 0 | 3 => 1

theorem lets_iff (i : Fin 6) (X : Fin 54) : lets i X = true ↔ i = letter X := by revert i X; decide +kernel
/-- Every copy a device sends is let by a signal it receives. -/
theorem letter_mem (c : Fin 16) (X : Fin 54) (h : act c X = true) : letter X ∈ sigs c := by
  revert c X; decide +kernel
/-- The signal that lets a device send goes out from where the copy goes. -/
theorem letter_src (c : Fin 16) (X : Fin 54) : sigSrc c (letter X) = dst c X := by revert c X; decide +kernel

/-! ## The events and their order -/

/-- What a device does: signal, wait for the signals, fill slot 0, send a copy, wait for one to arrive, multiply a slot,
    wait for a send to be over. -/
inductive Ev
  | sig (i : Fin 6) | bar | init | snd (X : Fin 54) | rcv (X : Fin 54) | gem (k : Fin 28) | wsn (X : Fin 54)
  deriving DecidableEq

/-- The events in the program's order. -/
def evs : List Ev :=
  [.sig 0, .sig 1, .sig 2, .sig 3, .sig 4, .sig 5, .bar, .init, .snd 0, .snd 6, .snd 12, .snd 26, .snd 1,
   .snd 7, .snd 13, .snd 27, .gem 0, .rcv 0, .snd 2, .snd 20, .snd 34, .rcv 6, .snd 8, .snd 14, .snd 28,
   .rcv 1, .snd 3, .snd 21, .snd 35, .rcv 7, .snd 9, .snd 15, .snd 29, .gem 4, .gem 1, .rcv 12, .snd 40,
   .rcv 26, .rcv 13, .rcv 27, .snd 47, .gem 7, .gem 14, .rcv 2, .snd 4, .snd 22, .snd 36, .rcv 8, .snd 10,
   .snd 16, .snd 30, .rcv 3, .snd 5, .snd 23, .snd 37, .rcv 9, .snd 11, .snd 17, .snd 31, .gem 5, .gem 2,
   .rcv 20, .snd 44, .rcv 34, .rcv 21, .rcv 35, .snd 51, .gem 11, .gem 18, .rcv 14, .snd 41, .rcv 28,
   .rcv 15, .rcv 29, .snd 48, .gem 8, .gem 15, .rcv 40, .rcv 47, .gem 21, .rcv 4, .snd 24, .snd 38, .rcv 10,
   .snd 18, .snd 32, .rcv 5, .snd 25, .snd 39, .rcv 11, .snd 19, .snd 33, .gem 6, .gem 3, .rcv 22, .snd 45,
   .rcv 36, .rcv 23, .rcv 37, .snd 52, .gem 12, .gem 19, .rcv 16, .snd 42, .rcv 30, .rcv 17, .rcv 31,
   .snd 49, .gem 9, .gem 16, .rcv 44, .rcv 51, .gem 25, .rcv 41, .rcv 48, .gem 22, .rcv 24, .snd 46, .rcv 38,
   .rcv 25, .rcv 39, .snd 53, .gem 13, .gem 20, .rcv 18, .snd 43, .rcv 32, .rcv 19, .rcv 33, .snd 50,
   .gem 10, .gem 17, .rcv 45, .rcv 52, .gem 26, .rcv 42, .rcv 49, .gem 23, .rcv 46, .rcv 53, .gem 27,
   .rcv 43, .rcv 50, .gem 24, .wsn 0, .wsn 6, .wsn 1, .wsn 7, .wsn 2, .wsn 8, .wsn 3, .wsn 9, .wsn 4,
   .wsn 10, .wsn 5, .wsn 11, .wsn 12, .wsn 26, .wsn 13, .wsn 27, .wsn 40, .wsn 47, .wsn 14, .wsn 28, .wsn 15,
   .wsn 29, .wsn 41, .wsn 48, .wsn 16, .wsn 30, .wsn 17, .wsn 31, .wsn 42, .wsn 49, .wsn 18, .wsn 32,
   .wsn 19, .wsn 33, .wsn 43, .wsn 50, .wsn 20, .wsn 34, .wsn 21, .wsn 35, .wsn 44, .wsn 51, .wsn 22,
   .wsn 36, .wsn 23, .wsn 37, .wsn 45, .wsn 52, .wsn 24, .wsn 38, .wsn 25, .wsn 39, .wsn 46, .wsn 53]

/-- When each copy is sent, -/
def sndPos : List ℕ := [8, 12, 18, 26, 44, 52, 9, 13, 22, 30, 48, 56, 10, 14, 23, 31, 49, 57, 84, 90, 19, 27, 45, 53, 81, 87, 11,
   15, 24, 32, 50, 58, 85, 91, 20, 28, 46, 54, 82, 88, 36, 70, 103, 125, 62, 95, 117, 40, 74, 107, 129, 66,
   99, 121]
/-- waited for where it arrives, -/
def rcvPos : List ℕ := [17, 25, 43, 51, 80, 86, 21, 29, 47, 55, 83, 89, 35, 38, 69, 72, 102, 105, 124, 127, 61, 64, 94, 97, 116,
   119, 37, 39, 71, 73, 104, 106, 126, 128, 63, 65, 96, 98, 118, 120, 77, 113, 135, 141, 110, 132, 138, 78,
   114, 136, 142, 111, 133, 139]
/-- and waited for where it left; -/
def wsnPos : List ℕ := [144, 146, 148, 150, 152, 154, 145, 147, 149, 151, 153, 155, 156, 158, 162, 164, 168, 170, 174, 176, 180,
   182, 186, 188, 192, 194, 157, 159, 163, 165, 169, 171, 175, 177, 181, 183, 187, 189, 193, 195, 160, 166,
   172, 178, 184, 190, 196, 161, 167, 173, 179, 185, 191, 197]
/-- when each slot is multiplied. -/
def gemPos : List ℕ := [16, 34, 60, 93, 33, 59, 92, 41, 75, 108, 130, 67, 100, 122, 42, 76, 109, 131, 68, 101, 123, 79, 115, 137,
   143, 112, 134, 140]

/-- The `n`-th event. -/
def evAt (n : ℕ) : Ev := evs.getD n .bar

/-- The place of an event in the order. -/
def pos : Ev → ℕ
  | .sig i => i.val | .bar => 6 | .init => 7 | .snd X => sndPos.getD X.val 0 | .rcv X => rcvPos.getD X.val 0
  | .gem k => gemPos.getD k.val 0 | .wsn X => wsnPos.getD X.val 0

theorem evAt_pos (e : Ev) : evAt (pos e) = e := by
  cases e with
  | sig i => revert i; decide +kernel
  | bar => decide
  | init => decide
  | snd X => revert X; decide +kernel
  | rcv X => revert X; decide +kernel
  | gem k => revert k; decide +kernel
  | wsn X => revert X; decide +kernel

theorem pos_evAt {n : ℕ} (h : n < 198) : pos (evAt n) = n := by
  have : ∀ n : Fin 198, pos (evAt n.val) = n.val := by decide +kernel
  exact this ⟨n, h⟩

theorem pos_lt (e : Ev) : pos e < 198 := by
  cases e with
  | sig i => revert i; decide +kernel
  | bar => decide
  | init => decide
  | snd X => revert X; decide +kernel
  | rcv X => revert X; decide +kernel
  | gem k => revert k; decide +kernel
  | wsn X => revert X; decide +kernel

/-- Event `e` is over once `n` events are. -/
def past (n : ℕ) (e : Ev) : Prop := pos e < n
instance (n : ℕ) (e : Ev) : Decidable (past n e) := inferInstanceAs (Decidable (pos e < n))

theorem not_past_zero (e : Ev) : ¬past 0 e := Nat.not_lt_zero _
theorem past_end (e : Ev) : past 198 e := pos_lt e

/-- The next event over, any other is over just when it was. -/
theorem past_succ_ne {n : ℕ} {e e' : Ev} (h : evAt n = e) (hne : e' ≠ e) : past (n + 1) e' ↔ past n e' := by
  unfold past
  have : pos e' ≠ n := fun h' => hne (by rw [← evAt_pos e', h', h])
  omega
theorem past_succ_self {n : ℕ} {e : Ev} (h : evAt n = e) (hn : n < 198) : past (n + 1) e := by
  unfold past; rw [← h, pos_evAt hn]; exact Nat.lt_succ_self n
theorem not_past_self {n : ℕ} {e : Ev} (h : evAt n = e) (hn : n < 198) : ¬past n e := by
  unfold past; rw [← h, pos_evAt hn]; exact Nat.lt_irrefl n
theorem past_of_lt {n : ℕ} {e e' : Ev} (h : evAt n = e) (hn : n < 198) (hlt : pos e' < pos e) : past n e' := by
  unfold past; rw [← h, pos_evAt hn] at hlt; exact hlt
theorem not_past_of_le {n : ℕ} {e e' : Ev} (h : evAt n = e) (hn : n < 198) (hle : pos e ≤ pos e') : ¬past n e' := by
  unfold past; rw [← h, pos_evAt hn] at hle; omega

/-- Event `e` concerns device `c`. -/
def on (c : Fin 16) : Ev → Bool
  | .sig i => sigOn c i | .bar => true | .init => true | .snd X => act c X | .rcv X => land c X | .gem k => valid c (k.val % 7)
  | .wsn X => act c X

/-- The event that fills a half slot. -/
def fillEv (r : Fin 56) : Ev := if h : r.val < 54 then .rcv ⟨r.val, h⟩ else .init

/-- A copy leaves after the half it reads is filled, before its send is waited for, and the handshake is over by then; -/
theorem fill_lt_snd (X : Fin 54) : pos (fillEv (srcHalf X)) < pos (.snd X) := by revert X; decide +kernel
theorem snd_lt_wsn (X : Fin 54) : pos (.snd X) < pos (.wsn X) := by revert X; decide +kernel
theorem bar_lt_snd (X : Fin 54) : pos .bar < pos (.snd X) := by revert X; decide +kernel
/-- the half it reads is filled where it leaves. -/
theorem filled_src (c : Fin 16) (X : Fin 54) (h : act c X = true) : filled c (srcHalf X) = true := by
  revert c X; decide +kernel
/-- A copy arrives where its slot wants the block that its source slot holds. -/
theorem origin_dst (c : Fin 16) (X : Fin 54) (h : act c X = true) :
    origin (dst c X) (slotOf (dstHalf X)) = origin c (slotOf (srcHalf X)) := by
  revert c X; decide +kernel
theorem half_dst (X : Fin 54) : halfOf (dstHalf X) = halfOf (srcHalf X) := by revert X; decide +kernel

/-- The two halves of a slot. -/
def halfAt (k : Fin 28) (s : Fin 2) : Fin 56 :=
  ⟨(if k.val = 0 then 54 + s.val else if k.val < 4 then 4 + 2 * k.val + s.val else if k.val < 7 then 2 * (k.val - 4) + s.val
    else if k.val < 21 then 2 * (k.val - 1) + s.val else 19 + k.val + 7 * s.val) % 56, Nat.mod_lt _ (by decide)⟩

theorem slot_halfAt (k : Fin 28) (s : Fin 2) : slotOf (halfAt k s) = k.val := by revert k s; decide +kernel
theorem half_halfAt (k : Fin 28) (s : Fin 2) : halfOf (halfAt k s) = s.val := by revert k s; decide +kernel
theorem fill_lt_gem (k : Fin 28) (s : Fin 2) : pos (fillEv (halfAt k s)) < pos (.gem k) := by revert k s; decide +kernel
theorem filled_halfAt (c : Fin 16) (k : Fin 28) (s : Fin 2) (h : valid c (k.val % 7) = true) : filled c (halfAt k s) = true := by
  revert c k s; decide +kernel
theorem slot_lt (r : Fin 56) : slotOf r < 28 := by revert r; decide +kernel
theorem half_lt (r : Fin 56) : halfOf r < 2 := by revert r; decide +kernel
theorem slot_half_inj (r r' : Fin 56) (h₁ : slotOf r = slotOf r') (h₂ : halfOf r = halfOf r') : r = r' := by
  revert r r'; decide +kernel

/-- Distinct slots that get filled hold distinct devices' blocks, and together they hold all sixteen. -/
theorem origin_inj (c : Fin 16) (k k' : Fin 28) (h : valid c (k.val % 7) = true) (h' : valid c (k'.val % 7) = true)
    (ho : origin c k.val = origin c k'.val) : k = k' := by
  revert c k k'; decide +kernel
theorem origin_surj (c o : Fin 16) : ∃ k : Fin 28, valid c (k.val % 7) = true ∧ origin c k.val = o := by
  revert c o; decide +kernel

/-- An event still owed at `n` is received later than the event at `n` when that is a wait. -/
theorem snd_lt_rcv (X : Fin 54) : pos (.snd X) < pos (.rcv X) := by revert X; decide +kernel

/-! ## Semaphores: the place of each in the pool, and back -/

def sendIx (X : Fin 54) : ℕ :=
  if X.val < 6 then 3 + X.val else if X.val < 12 then 9 + X.val else if X.val < 40 then 15 + X.val else 43 + X.val
def recvIx (X : Fin 54) : ℕ :=
  if X.val < 6 then 9 + X.val else if X.val < 12 then 15 + X.val else if X.val < 40 then 43 + X.val else 57 + X.val

theorem sendIx_lt (X : Fin 54) : sendIx X < 111 := by revert X; decide +kernel
theorem recvIx_lt (X : Fin 54) : recvIx X < 111 := by revert X; decide +kernel

/-- The copy whose arrival a semaphore of the pool counts, -/
def recvOf (q : ℕ) : Option (Fin 54) := (List.finRange 54).find? fun X => recvIx X == q
/-- and the copy whose departure it counts. -/
def sendOf (q : ℕ) : Option (Fin 54) := (List.finRange 54).find? fun X => sendIx X == q

theorem recvOf_recv (X : Fin 54) : recvOf (recvIx X) = some X := by revert X; decide +kernel
theorem sendOf_send (X : Fin 54) : sendOf (sendIx X) = some X := by revert X; decide +kernel
theorem recvOf_send (X : Fin 54) : recvOf (sendIx X) = none := by revert X; decide +kernel
theorem sendOf_recv (X : Fin 54) : sendOf (recvIx X) = none := by revert X; decide +kernel
theorem recvOf_small : ∀ q : Fin 3, recvOf q.val = none := by decide +kernel

end Cert.KernelIdeal.Plan

end
-- ==== Proof.Cells.lean ====
/-
# 01_k — half slots, contents, semaphore cells and the schedule of the gather

The pieces of the scratch buffer the copies move, what they hold once filled, the semaphore cells, and the schedule: a
barrier cell collects one unit from each of the four signals its device receives, each handing over the half slots their
sender lets the receiver fill; a receive cell the arrival of one copy, handing over the filled half slot; a send cell the
end of one copy, handing back the share of the half slot it read.
-/
module

public import proofs.«01_k».proof.Proof.Plan
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Rounds.Family
public import Idealize.ShloMosaic.Lib.Tactic

@[expose] public section

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the gather's, whose duties are the six signals' names -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

omit [FloatOps F] in
/-- Two assertions that entail each other are equal. -/
theorem eq_of_bi {P Q : sProp 𝕄} (h : P ⊣⊢ Q) : P = Q := BI.equiv_iff.mp ⟨h.1, h.2⟩

omit [FloatOps F] in
/-- A family of empty assertions is empty; -/
theorem bigSep_emps {ι : Type} {s : Finset ι} {Φ : ι → sProp 𝕄} (h : ∀ i ∈ s, Φ i = iprop(emp)) : bigSep s Φ = iprop(emp) :=
  (bigSep_congr h).trans (bigSep_emp_const s)

omit [FloatOps F] in
/-- a family empty but for one index is that one's assertion. -/
theorem bigSep_only {ι : Type} [Fintype ι] [DecidableEq ι] {Φ : ι → sProp 𝕄} (i : ι) (h : ∀ j, j ≠ i → Φ j = iprop(emp)) :
    bigSep Finset.univ Φ = Φ i := by
  rw [bigSep_univ_split i, bigSep_emps fun j hj => h j (Finset.mem_erase.mp hj).1]
  exact eq_of_bi sep_emp

omit [FloatOps F] in
/-- A family entails each member. -/
theorem at_elim {ι : Type} [Fintype ι] [DecidableEq ι] {Φ : ι → sProp 𝕄} (i : ι) : bigSep Finset.univ Φ ⊢ Φ i := bigSep_elim (Finset.mem_univ i)

/-! ## The buffers and the half slots -/

abbrev xM : Memref sig .tc .vmem S64x1024 .f32 := Memref.whole cc0_stg0_0
abbrev wM : Memref sig .tc .vmem S1024x64 .f32 := Memref.whole cc0_stg1_0
abbrev oM : Memref sig .tc .vmem S1024x64 .f32 := Memref.whole cc0_stg2_0
abbrev sM : Memref sig .tc .vmem S28x64x1024 .f32 := Memref.whole cc0_scratch0

/-- 32 rows of one slot, from row `b` of slot `a`. -/
abbrev seg (a b : ℕ) (h : ∀ x, (![a, b, 0] : Fin 3 → ℕ) x + S1x32x1024.size x ≤ S28x64x1024.size x) : Memref sig .tc .vmem S32x1024 .f32 :=
  (sM.slice (Rect.unit (s := S28x64x1024) ![a, b, 0] S1x32x1024.size h) (fun _ => rfl)).squeeze S32x1024 squeezes_S1x32x1024_S32x1024

theorem seg_inb {a b : ℕ} (ha : a < 28) (hb : b ≤ 32) (x : Fin 3) : (![a, b, 0] : Fin 3 → ℕ) x + S1x32x1024.size x ≤ S28x64x1024.size x := by
  fin_cases x
  · show a + 1 ≤ 28; omega
  · show b + 32 ≤ 64; omega
  · show 0 + 1024 ≤ 1024; omega

theorem row_le (r : Fin 56) : rowOf r ≤ 32 := by have := half_lt r; unfold rowOf; omega

abbrev half (r : Fin 56) : Memref sig .tc .vmem S32x1024 .f32 := seg (slotOf r) (rowOf r) (seg_inb (slot_lt r) (row_le r))

/-- The elements of a half slot. -/
def rset (r : Fin 56) : Finset S28x64x1024.Idx := (half r).view.set

theorem mem_rset (r : Fin 56) (i : S28x64x1024.Idx) : i ∈ rset r ↔ (i 0).val = slotOf r ∧ (i 1).val / 32 = halfOf r := by
  have h1 : rset r = (Rect.unit (s := S28x64x1024) ![slotOf r, rowOf r, 0] S1x32x1024.size (seg_inb (slot_lt r) (row_le r))).set := by
    unfold rset
    exact (View.set_reshape _ _).trans (View.set_slice_whole _ _)
  rw [h1, Rect.mem_set_unit]
  have hh : rowOf r = 32 * halfOf r := rfl
  constructor
  · intro h
    have h0 : slotOf r ≤ (i 0).val ∧ (i 0).val < slotOf r + 1 := h 0
    have h2 : rowOf r ≤ (i 1).val ∧ (i 1).val < rowOf r + 32 := h 1
    omega
  · rintro ⟨h0, h2⟩ a
    fin_cases a
    · show slotOf r ≤ (i 0).val ∧ (i 0).val < slotOf r + 1; omega
    · show rowOf r ≤ (i 1).val ∧ (i 1).val < rowOf r + 32; omega
    · show 0 ≤ (i 2).val ∧ (i 2).val < 0 + 1024; exact ⟨Nat.zero_le _, by have := (i 2).isLt; show (i 2).val < 0 + 1024; rw [Nat.zero_add]; exact this⟩

theorem rset_disjoint (r r' : Fin 56) (h : r ≠ r') : Disjoint (rset r) (rset r') := by
  rw [Finset.disjoint_left]
  intro i hi hi'
  rw [mem_rset] at hi hi'
  exact h (slot_half_inj r r' (hi.1.symm.trans hi'.1) (hi.2.symm.trans hi'.2))

theorem rset_cover : (Finset.univ : Finset (Fin 56)).biUnion rset = Finset.univ := by
  ext i
  simp only [Finset.mem_biUnion, Finset.mem_univ, true_and, iff_true]
  have h2 : (i 1).val / 32 < 2 := by
    have : (i 1).val < 64 := (i 1).isLt
    omega
  exact ⟨halfAt (i 0) ⟨(i 1).val / 32, h2⟩, (mem_rset _ i).mpr ⟨(slot_halfAt (i 0) ⟨_, h2⟩).symm, (half_halfAt (i 0) ⟨_, h2⟩).symm⟩⟩

/-! ## Contents -/

variable (xs : Dev nD → (cc0_stg0_0 : Ref sig .tc).ty.Contents (Elt F))

/-- The row and column of an element within its slot. -/
def inSlot (i : S28x64x1024.Idx) : S64x1024.Idx := fun a => match a with | ⟨0, _⟩ => ⟨(i 1).val, (i 1).isLt⟩ | ⟨1, _⟩ => ⟨(i 2).val, (i 2).isLt⟩

/-- What the filled part of device `c`'s scratch buffer holds: in each slot, the block of the device the slot is for. -/
def filledWith (c : Dev nD) : (cc0_scratch0 : Ref sig .tc).ty.Contents (Elt F) :=
  fun i => xs (origin c ((i : S28x64x1024.Idx) 0).val) (inSlot i)

omit [FloatOps F] in
/-- A copy carries what its destination is to hold. -/
theorem landed (c : Dev nD) (X : Fin 54) (h : act c X = true) (fd : (cc0_scratch0 : Ref sig .tc).ty.Contents (Elt F)) :
    ∀ i ∈ rset (dstHalf X), (half (dstHalf X)).view.write (Elt F) fd ((half (srcHalf X)).view.read (Elt F) (filledWith xs c)) Finset.univ i
      = filledWith xs (dst c X) i := by
  intro i hi
  obtain ⟨x, rfl⟩ : ∃ x, (half (dstHalf X)).view.emb x = i := by
    unfold rset View.set at hi; obtain ⟨x, -, hx⟩ := Finset.mem_map.mp hi; exact ⟨x, hx⟩
  refine (View.write_emb_of_mem (v := (half (dstHalf X)).view) (Val := Elt F) fd _ (Finset.mem_univ x)).trans ?_
  show filledWith xs c ((half (srcHalf X)).view.emb x) = filledWith xs (dst c X) ((half (dstHalf X)).view.emb x)
  set y := Shape.reshapeEquiv (squeezes_S1x32x1024_S32x1024).numel_eq x with hy
  have hy0 : (y 0).val = 0 := by have : (y 0).val < 1 := (y 0).isLt; omega
  have e0 (r : Fin 56) : (((half r).view.emb x : S28x64x1024.Idx) 0).val = slotOf r := by
    show slotOf r + 1 * (y 0).val = slotOf r; omega
  have e1 (r : Fin 56) : (((half r).view.emb x : S28x64x1024.Idx) 1).val = rowOf r + 1 * (y 1).val := rfl
  have e2 (r : Fin 56) : (((half r).view.emb x : S28x64x1024.Idx) 2).val = 0 + 1 * (y 2).val := rfl
  unfold filledWith
  rw [e0, e0, ← origin_dst c X h]
  congr 1
  funext a
  match a with
  | ⟨0, _⟩ => exact Fin.ext ((e1 _).trans (Eq.trans (by unfold rowOf; rw [half_dst]) (e1 _).symm))
  | ⟨1, _⟩ => exact Fin.ext ((e2 _).trans (e2 _).symm)

/-! ## Cells -/

/-- The runtime's barrier semaphore, the send and the receive semaphores of the copies. -/
abbrev barS : Sem sig := (SemArray.scalar (sig.barrier 0 rfl) : Sems sig S_).sem
abbrev sendS (X : Fin 54) : DmaSem sig := (⟨sendIx X, sendIx_lt X⟩ : Fin 111)
abbrev recvS (X : Fin 54) : DmaSem sig := (⟨recvIx X, recvIx_lt X⟩ : Fin 111)

abbrev barCell (c : Dev nD) : GSem nD τ sig := ((c : Thread nD τ), .reg barS)
abbrev sendCell (c : Dev nD) (X : Fin 54) : GSem nD τ sig := ((c : Thread nD τ), .dma (sendS X))
abbrev recvCell (c : Dev nD) (X : Fin 54) : GSem nD τ sig := ((c : Thread nD τ), .dma (recvS X))

/-- The credit of one copy. -/
abbrev N : ℕ := (half 0).view.dmaCredit
theorem N_pos : 0 < N := View.dmaCredit_pos _ (by decide)

abbrev sLoc (c : Dev nD) : Loc nD τ sig := (c : Thread nD τ).loc cc0_scratch0

/-- A half slot of device `c`, holding anything. -/
def free (c : Dev nD) (r : Fin 56) : sProp 𝕄 := iprop(∃ f : Buf (Elt F) (sLoc c), sLoc c ↦[rset r]{fullShare} f)

/-- The share of a filled half slot a send in direction `a` borrows; the other half of the whole stays for the loads. -/
def lendShare (a : Fin 4) : PosShare TreeShare := ShareLeaves.leaf 2 fullShare.right a

/-- A half slot of device `c` filled, at a share. -/
def full (c : Dev nD) (r : Fin 56) (q : PosShare TreeShare) : sProp 𝕄 := sLoc c ↦[rset r]{q} filledWith xs c

omit [FloatOps F] in
theorem full_split (c : Dev nD) (r : Fin 56) :
    (full xs c r fullShare : sProp 𝕄) = iprop(full xs c r fullShare.left ∗ bigSep Finset.univ fun a : Fin 4 => full xs c r (lendShare a)) := by
  unfold full lendShare
  refine (eq_of_bi (pointsTo_share (PosShare.mem_left_op_right fullShare))).trans ?_
  exact congrArg (fun P : sProp 𝕄 => iprop((sLoc c ↦[rset r]{fullShare.left} filledWith xs c) ∗ P))
    (ShareLeaves.pointsTo_leaves (ℓ := sLoc c) (rset r) (filledWith xs c) 2 fullShare.right)

/-! ## The schedule -/

/-- What signal `i` hands device `d`: the half slots, on its sender, that it lets `d` fill. -/
def barPay (d : Dev nD) (i : Fin 6) : sProp 𝕄 :=
  bigSep Finset.univ fun X : Fin 54 => if act d X = true ∧ lets i X = true then free (F := F) (dst d X) (dstHalf X) else iprop(emp)
def recvPay (d : Dev nD) (X : Fin 54) : sProp 𝕄 := full xs d (dstHalf X) fullShare
def sendPay (d : Dev nD) (X : Fin 54) : sProp 𝕄 := full xs d (srcHalf X) (lendShare (dirOf X))

omit [FloatOps F] in
instance free_storable (c : Dev nD) (r) : BI.Storable (upEmb : UEmb _ 𝕄) (free (F := F) c r) := by unfold free; infer_instance
omit [FloatOps F] in
instance full_storable (c : Dev nD) (r q) : BI.Storable (upEmb : UEmb _ 𝕄) (full (F := F) xs c r q) := by unfold full; infer_instance
omit [FloatOps F] in
instance barPay_storable (d : Dev nD) (i) : BI.Storable (upEmb : UEmb _ 𝕄) (barPay (F := F) d i) := by
  unfold barPay
  have h (X : Fin 54) : BI.Storable (upEmb : UEmb _ 𝕄) (if act d X = true ∧ lets i X = true then free (F := F) (dst d X) (dstHalf X) else iprop(emp)) := by
    split <;> infer_instance
  infer_instance

def dutiesOf (d : Dev nD) : SemLoc sig → Finset (Fin 6)
  | .reg _ => sigs d
  | .dma q => match recvOf q.val with
    | some X => if land d X = true then {0} else ∅
    | none => match sendOf q.val with
      | some X => if act d X = true then {0} else ∅
      | none => ∅

def payOf (d : Dev nD) (i : Fin 6) : SemLoc sig → sProp 𝕄
  | .reg _ => barPay d i
  | .dma q => match recvOf q.val with
    | some X => recvPay xs d X
    | none => match sendOf q.val with
      | some X => sendPay xs d X
      | none => iprop(emp)

def amountOf : SemLoc sig → ℕ
  | .reg _ => 1
  | .dma _ => N

/-- One round for every cell. -/
def Rd : Rounds.Schedule (GSem nD τ sig) (Fin 6) 𝕄 where
  duties g r := if r = 0 ∧ g.1.2 = .tc then dutiesOf g.1.1 g.2 else ∅
  unitless _ := False
  amount g _ _ := amountOf g.2
  payload g _ i := payOf xs g.1.1 i g.2
  amount_pos g _ _ _ := by
    unfold amountOf; split
    · exact Nat.one_pos
    · exact N_pos

omit [FloatOps F] in
instance Rd_payload_storable (g : GSem nD τ sig) (r : ℕ) (i : Fin 6) : BI.Storable (upEmb : UEmb _ 𝕄) ((Rd (F := F) xs).payload g r i) := by
  show BI.Storable upEmb (payOf xs g.1.1 i g.2)
  unfold payOf recvPay sendPay
  (repeat' split) <;> infer_instance

section Sched
omit [FloatOps F]
variable (c : Dev nD) (X : Fin 54)

theorem duties_bar : (Rd (F := F) xs).duties (barCell c) 0 = sigs c := by dsimp only [Rd]; exact if_pos ⟨rfl, rfl⟩
theorem duties_recv : (Rd (F := F) xs).duties (recvCell c X) 0 = if land c X = true then {0} else ∅ := by
  dsimp only [Rd]
  rw [if_pos ⟨rfl, rfl⟩]
  show dutiesOf c (.dma (recvS X)) = _
  dsimp only [dutiesOf]
  rw [recvOf_recv]
theorem duties_send : (Rd (F := F) xs).duties (sendCell c X) 0 = if act c X = true then {0} else ∅ := by
  dsimp only [Rd]
  rw [if_pos ⟨rfl, rfl⟩]
  show dutiesOf c (.dma (sendS X)) = _
  dsimp only [dutiesOf]
  rw [recvOf_send, sendOf_send]
theorem duties_later (g : GSem nD τ sig) (r : ℕ) (h : 1 ≤ r) : (Rd (F := F) xs).duties g r = ∅ := by
  dsimp only [Rd]; exact if_neg fun h' => by omega

theorem payload_bar (i : Fin 6) : (Rd (F := F) xs).payload (barCell c) 0 i = barPay c i := rfl
theorem payload_recv (i : Fin 6) : (Rd (F := F) xs).payload (recvCell c X) 0 i = recvPay xs c X := by
  show (match recvOf (recvIx X) with
    | some X => recvPay xs c X
    | none => match sendOf (recvIx X) with
      | some X => sendPay xs c X
      | none => iprop(emp)) = _
  rw [recvOf_recv]
theorem payload_send (i : Fin 6) : (Rd (F := F) xs).payload (sendCell c X) 0 i = sendPay xs c X := by
  show (match recvOf (sendIx X) with
    | some X => recvPay xs c X
    | none => match sendOf (sendIx X) with
      | some X => sendPay xs c X
      | none => iprop(emp)) = _
  rw [recvOf_send, sendOf_send]

theorem expect_bar : (Rd (F := F) xs).expect (barCell c) 0 = 4 := by
  unfold Schedule.expect Schedule.amountOf
  rw [duties_bar, Finset.sum_congr rfl fun d _ => show (Rd (F := F) xs).amount (barCell c) 0 d = 1 from rfl, Finset.sum_const, sigs_card, smul_eq_mul]
theorem expect_recv (h : land c X = true) : (Rd (F := F) xs).expect (recvCell c X) 0 = N := by
  unfold Schedule.expect Schedule.amountOf; rw [duties_recv, if_pos h, Finset.sum_singleton]; rfl
theorem expect_send (h : act c X = true) : (Rd (F := F) xs).expect (sendCell c X) 0 = N := by
  unfold Schedule.expect Schedule.amountOf; rw [duties_send, if_pos h, Finset.sum_singleton]; rfl

theorem rest_recv (h : land c X = true) :
    bigSep ((Rd (F := F) xs).duties (recvCell c X) 0 \ ∅) (fun d => (Rd (F := F) xs).payload (recvCell c X) 0 d) = recvPay xs c X := by
  rw [Finset.sdiff_empty, duties_recv, if_pos h, bigSep_singleton, payload_recv]
theorem rest_send (h : act c X = true) :
    bigSep ((Rd (F := F) xs).duties (sendCell c X) 0 \ ∅) (fun d => (Rd (F := F) xs).payload (sendCell c X) 0 d) = sendPay xs c X := by
  rw [Finset.sdiff_empty, duties_send, if_pos h, bigSep_singleton, payload_send]

/-- All a device's signals together hand it every half slot it is to fill. -/
theorem rest_bar : bigSep ((Rd (F := F) xs).duties (barCell c) 0 \ ∅) (fun d => (Rd (F := F) xs).payload (barCell c) 0 d)
    = bigSep Finset.univ fun X : Fin 54 => if act c X = true then free (F := F) (dst c X) (dstHalf X) else iprop(emp) := by
  rw [Finset.sdiff_empty, duties_bar]
  have hs : sigs c = Finset.univ.filter fun i => i ∈ sigs c := by ext i; simp
  rw [hs, bigSep_filter]
  have h1 (i : Fin 6) : (if i ∈ sigs c then (Rd (F := F) xs).payload (barCell c) 0 i else iprop(emp))
      = bigSep Finset.univ fun X : Fin 54 => if i = letter X ∧ act c X = true then free (F := F) (dst c X) (dstHalf X) else iprop(emp) := by
    rw [payload_bar]
    split
    · unfold barPay
      exact bigSep_congr fun X _ => by simp only [lets_iff, and_comm]
    · rename_i hi
      exact (bigSep_emp_const _).symm.trans <| bigSep_congr fun X _ => (if_neg fun h => hi (by rw [h.1]; exact letter_mem c X h.2)).symm
  refine (bigSep_congr fun i _ => h1 i).trans ?_
  rw [bigSep_univ_comm]
  refine bigSep_congr fun X _ => ?_
  rw [bigSep_only (letter X) fun i hi => if_neg fun h => hi h.1]
  simp only [true_and]

end Sched

/-! ## Levels -/

def L (g : GSem nD τ sig) : Finset Unit := if g.1.2 = .tc then {()} else ∅
/-- A barrier cell lies above the staging and send cells, a receive cell above that, the higher the later it is waited for. -/
def lvOf : SemLoc sig → ℕ
  | .reg _ => 1
  | .dma q => match recvOf q.val with
    | some X => 2 + pos (.rcv X)
    | none => 0
def lv (g : GSem nD τ sig) (_ : Unit) : ℕ := lvOf g.2

theorem L_of_ne (g : GSem nD τ sig) (h : g.1.2 ≠ .tc) : L g = ∅ := if_neg h
theorem lv_recv (c : Dev nD) (X : Fin 54) : lv (recvCell c X) () = 2 + pos (.rcv X) := by
  show (match recvOf (recvIx X) with
    | some X => 2 + pos (.rcv X)
    | none => 0) = _
  rw [recvOf_recv]
theorem lv_send (c : Dev nD) (X : Fin 54) : lv (sendCell c X) () = 0 := by
  show (match recvOf (sendIx X) with
    | some X => 2 + pos (.rcv X)
    | none => 0) = _
  rw [recvOf_send]
theorem lv_bar (c : Dev nD) : lv (barCell c) () = 1 := rfl

omit [FloatOps F] in
/-- A wait below everything owed. -/
theorem mayWait_of (c : Dev nD) (sm : SemLoc sig) (O : CellTallies nD τ sig Unit)
    (h : ∀ g u, 0 < O g u → g.1.2 = .tc ∧ lvOf sm < lv g ()) : (levAts L lv : sProp 𝕄) ⊢ MayWait (c : Thread nD τ) sm () O :=
  MayOwe.of_cut (L := L) (lev := lv) (lvOf sm)
    (fun p hp => by rw [Finset.mem_singleton.mp hp]; show () ∈ L ((c : Thread nD τ), sm); rw [show L ((c : Thread nD τ), sm) = {()} from if_pos rfl]; exact Finset.mem_singleton_self _)
    (fun g u hg => by rw [show L g = {()} from if_pos (h g u hg).1]; exact Finset.mem_singleton_self _)
    (fun p hp => by rw [Finset.mem_singleton.mp hp]; exact le_refl _)
    (fun g u hg => (h g u hg).2)

end Cert.KernelIdeal.Plan

end
-- ==== Proof.State.lean ====
/-
# 01_k — what a device holds between two events

The assertion is told by the standing of every event on the device: of no concern to it, still to come, or over. An event
changes its own standing only, so each piece of the assertion changes at one index at most; the lemmas here say how.
-/
module

public import proofs.«01_k».proof.Proof.Cells

@[expose] public section

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Standings -/

/-- An event on a device: of no concern to it, still to come, over. -/
inductive Stat | off | live | over
  deriving DecidableEq

/-- The standing of an event once `n` events are over. -/
def stat (c : Dev nD) (n : ℕ) (e : Ev) : Stat := if on c e = true then (if past n e then .over else .live) else .off

theorem stat_self {c : Dev nD} {n : ℕ} {e : Ev} (hn : n < 198) (hev : evAt n = e) (hon : on c e = true) : stat c n e = .live := by
  unfold stat; rw [if_pos hon, if_neg (not_past_self hev hn)]
theorem stat_succ {c : Dev nD} {n : ℕ} {e : Ev} (hn : n < 198) (hev : evAt n = e) (hon : on c e = true) :
    stat c (n + 1) = Function.update (stat c n) e .over := by
  funext e'
  by_cases h : e' = e
  · subst h; rw [Function.update_self]; unfold stat; rw [if_pos hon, if_pos (past_succ_self hev hn)]
  · rw [Function.update_of_ne h]; unfold stat; simp only [past_succ_ne hev h]
theorem stat_skip {c : Dev nD} {n : ℕ} {e : Ev} (hev : evAt n = e) (hon : on c e = false) : stat c (n + 1) = stat c n := by
  funext e'
  by_cases h : e' = e
  · subst h; unfold stat; rw [if_neg (by rw [hon]; decide), if_neg (by rw [hon]; decide)]
  · unfold stat; simp only [past_succ_ne hev h]
theorem stat_over {c : Dev nD} {n : ℕ} {e e' : Ev} (hn : n < 198) (hev : evAt n = e) (hon : on c e' = true) (hlt : pos e' < pos e) :
    stat c n e' = .over := by
  unfold stat; rw [if_pos hon, if_pos (past_of_lt hev hn hlt)]
theorem stat_live {c : Dev nD} {n : ℕ} {e e' : Ev} (hn : n < 198) (hev : evAt n = e) (hon : on c e' = true) (hle : pos e ≤ pos e') :
    stat c n e' = .live := by
  unfold stat; rw [if_pos hon, if_neg (not_past_of_le hev hn hle)]
theorem stat_not_over {c : Dev nD} {n : ℕ} {e e' : Ev} (hn : n < 198) (hev : evAt n = e) (hle : pos e ≤ pos e') :
    stat c n e' ≠ .over := by
  unfold stat; split
  · rw [if_neg (not_past_of_le hev hn hle)]; decide
  · decide
theorem on_of_over {c : Dev nD} {n : ℕ} {e : Ev} (h : stat c n e = .over) : on c e = true := by
  unfold stat at h; split at h
  · assumption
  · cases h
theorem pos_of_live {c : Dev nD} {n : ℕ} {e : Ev} (h : stat c n e = .live) : on c e = true ∧ n ≤ pos e := by
  unfold stat at h; split at h
  · rename_i h1
    refine ⟨h1, ?_⟩
    split at h
    · cases h
    · rename_i h2; unfold past at h2; omega
  · cases h

/-! ## What is owed -/

/-- A copy not yet sent owes its arrival, a signal not yet given its unit. -/
def owed (c : Dev nD) (σ : Ev → Stat) : CellTallies nD τ sig Unit :=
  (∑ X : Fin 54, if σ (.snd X) = .live then tallyAt (recvCell (dst c X) X) () N else 0)
    + ∑ i : Fin 6, if σ (.sig i) = .live then tallyAt (barCell (sigDst c i)) () 1 else 0

theorem sum_upd {ι A : Type} [Fintype ι] [DecidableEq ι] [AddCommMonoid A] {p p' : ι → Prop} [DecidablePred p] [DecidablePred p'] (f : ι → A) (a : ι)
    (hp : p a) (hp' : ¬p' a) (h : ∀ b, b ≠ a → (p b ↔ p' b)) :
    (∑ b, if p b then f b else 0) = (∑ b, if p' b then f b else 0) + f a := by
  rw [← Finset.add_sum_erase _ _ (Finset.mem_univ a), ← Finset.add_sum_erase (f := fun b => if p' b then f b else 0) _ (Finset.mem_univ a),
    if_pos hp, if_neg hp', zero_add, add_comm]
  congr 1
  exact Finset.sum_congr rfl fun b hb => by simp only [h b (Finset.mem_erase.mp hb).1]

theorem owed_snd (c : Dev nD) (σ : Ev → Stat) (X : Fin 54) (h : σ (.snd X) = .live) :
    owed c σ = owed c (Function.update σ (.snd X) .over) + tallyAt (recvCell (dst c X) X) () N := by
  unfold owed
  rw [sum_upd (p' := fun Y => Function.update σ (.snd X) .over (.snd Y) = .live) (fun Y => tallyAt (recvCell (dst c Y) Y) () N) X h
    (by simp) (fun Y hY => by simp [Function.update_apply, hY])]
  simp only [Function.update_apply, reduceCtorEq, if_false]
  exact add_right_comm _ _ _
theorem owed_sig (c : Dev nD) (σ : Ev → Stat) (i : Fin 6) (h : σ (.sig i) = .live) :
    owed c σ = owed c (Function.update σ (.sig i) .over) + tallyAt (barCell (sigDst c i)) () 1 := by
  unfold owed
  rw [sum_upd (p' := fun j => Function.update σ (.sig i) .over (.sig j) = .live) (fun j => tallyAt (barCell (sigDst c j)) () 1) i h
    (by simp) (fun j hj => by simp [Function.update_apply, hj])]
  simp only [Function.update_apply, reduceCtorEq, if_false]
  exact (add_assoc _ _ _).symm
theorem owed_keep (c : Dev nD) (σ : Ev → Stat) (e : Ev) (v : Stat) (h1 : ∀ X, Ev.snd X ≠ e) (h2 : ∀ i, Ev.sig i ≠ e) :
    owed c (Function.update σ e v) = owed c σ := by
  unfold owed; simp only [Function.update_of_ne (h1 _), Function.update_of_ne (h2 _)]

/-- Whatever is owed is owed to a receive cell of a copy still to be sent, or to a barrier cell by a signal still to be given. -/
theorem owed_pos {c : Dev nD} {σ : Ev → Stat} {g : GSem nD τ sig} {u : Unit} (h : 0 < owed c σ g u) :
    (∃ X, σ (.snd X) = .live ∧ g = recvCell (dst c X) X) ∨ ∃ i, σ (.sig i) = .live ∧ g = barCell (sigDst c i) := by
  by_contra hn
  rw [not_or] at hn
  have key : owed c σ g u = 0 := by
    unfold owed
    rw [Pi.add_apply, Finsupp.add_apply, Finset.sum_apply, Finset.sum_apply, Finsupp.finset_sum_apply, Finsupp.finset_sum_apply]
    have h1 (X : Fin 54) : ((if σ (.snd X) = .live then tallyAt (recvCell (dst c X) X) () N else 0 : CellTallies nD τ sig Unit) g) u = 0 := by
      split
      · rename_i hl
        rw [tallyAt_ne_cell fun he => hn.1 ⟨X, hl, he⟩]; rfl
      · rfl
    have h2 (i : Fin 6) : ((if σ (.sig i) = .live then tallyAt (barCell (sigDst c i)) () 1 else 0 : CellTallies nD τ sig Unit) g) u = 0 := by
      split
      · rename_i hl
        rw [tallyAt_ne_cell fun he => hn.2 ⟨i, hl, he⟩]; rfl
      · rfl
    rw [Finset.sum_eq_zero fun X _ => h1 X, Finset.sum_eq_zero fun i _ => h2 i]
    rfl
  omega

/-! ## The pieces -/

variable (xs : Dev nD → (cc0_stg0_0 : Ref sig .tc).ty.Contents (Elt F)) (ws : Dev nD → (cc0_stg1_0 : Ref sig .tc).ty.Contents (Elt F))

/-- The index of the cells of one device: its barrier, send and receive cells. -/
abbrev Cx : Type := Unit ⊕ (Fin 54 ⊕ Fin 54)
def kcell (p : Dev nD × Cx) : GSem nD τ sig :=
  match p.2 with
  | .inl _ => barCell p.1
  | .inr (.inl X) => sendCell p.1 X
  | .inr (.inr X) => recvCell p.1 X

/-- All cells' invariants, at the names `K`, and that each is at its round 0 at least. -/
def records (K : Dev nD × Cx → ℕ) : sProp 𝕄 :=
  iprop((bigSep Finset.univ fun p : Dev nD × Cx => cellInv ER (Rd xs) (K p) (kcell p))
    ∗ bigSep Finset.univ fun p : Dev nD × Cx => reached ER (kcell p) 0)

omit [FloatOps F] in
instance records_persistent (K : Dev nD × Cx → ℕ) : BI.Persistent (records (F := F) xs K) := by unfold records; infer_instance

omit [FloatOps F] in
theorem records_inv (K : Dev nD × Cx → ℕ) (p : Dev nD × Cx) : (records xs K : sProp 𝕄) ⊢ cellInv ER (Rd xs) (K p) (kcell p) := by
  unfold records; iintro ⟨H, -⟩; iapply (at_elim (Φ := fun p : Dev nD × Cx => (cellInv ER (Rd xs) (K p) (kcell p) : sProp 𝕄)) p); iexact H
omit [FloatOps F] in
theorem records_reached (K : Dev nD × Cx → ℕ) (p : Dev nD × Cx) : (records xs K : sProp 𝕄) ⊢ reached ER (kcell p) 0 := by
  unfold records; iintro ⟨-, H⟩; iapply (at_elim (Φ := fun p : Dev nD × Cx => (reached ER (kcell p) 0 : sProp 𝕄)) p); iexact H

variable (c : Dev nD) (σ : Ev → Stat)

/-- A signal to be given: its token and what it hands over. -/
def sigC (i : Fin 6) : sProp 𝕄 :=
  if σ (.sig i) = .live then iprop(dutyTok ER (barCell (sigDst c i)) 0 i ∗ barPay (sigDst c i) i) else iprop(emp)
/-- The device's own barrier cell. -/
def barC : sProp 𝕄 :=
  if σ .bar = .over then atPos ER (barCell c) 1 ∅ 0 else iprop(cred (tallyAt (barCell c) () 4) ∗ atPos ER (barCell c) 0 ∅ 0)
/-- A copy it sends: the tokens at both ends before, the credit of its end while it is under way. -/
def sndC (X : Fin 54) : sProp 𝕄 :=
  if σ (.snd X) = .live then iprop(dutyTok ER (recvCell (dst c X) X) 0 0 ∗ dutyTok ER (sendCell c X) 0 0 ∗ atPos ER (sendCell c X) 0 ∅ 0)
  else match σ (.wsn X) with
    | .live => iprop(cred (tallyAt (sendCell c X) () N) ∗ atPos ER (sendCell c X) 0 ∅ 0)
    | .over => atPos ER (sendCell c X) 1 ∅ 0
    | .off => atPos ER (sendCell c X) 0 ∅ 0
/-- The half slot a copy is to fill, from the handshake until it is sent. -/
def gotC (X : Fin 54) : sProp 𝕄 := if σ (.snd X) = .live ∧ σ .bar = .over then free (F := F) (dst c X) (dstHalf X) else iprop(emp)
/-- A copy it receives. -/
def rcvC (X : Fin 54) : sProp 𝕄 :=
  match σ (.rcv X) with
    | .live => iprop(cred (tallyAt (recvCell c X) () N) ∗ atPos ER (recvCell c X) 0 ∅ 0)
    | .over => atPos ER (recvCell c X) 1 ∅ 0
    | .off => atPos ER (recvCell c X) 0 ∅ 0
/-- A copy under way in direction `a` borrows from half slot `r`. -/
def lent (r : Fin 56) (a : Fin 4) : Prop := ∃ X : Fin 54, srcHalf X = r ∧ dirOf X = a ∧ σ (.snd X) = .over ∧ σ (.wsn X) = .live
instance (r : Fin 56) (a : Fin 4) : Decidable (lent σ r a) := by unfold lent; infer_instance
/-- One of the four shares of a half slot that copies borrow. -/
def lentC (r : Fin 56) (a : Fin 4) : sProp 𝕄 := if lent σ r a then iprop(emp) else full xs c r (lendShare a)
/-- A half slot of its own scratch: filled, in the hands of the copy that fills it, or holding anything. -/
def halfC (r : Fin 56) : sProp 𝕄 :=
  match σ (fillEv r) with
    | .over => iprop(full xs c r fullShare.left ∗ bigSep Finset.univ (lentC xs c σ r))
    | .live => if r.val < 54 then iprop(emp) else free (F := F) c r
    | .off => free (F := F) c r

/-- The product of one block of `x` and the device's `w`. -/
def prod (x : (cc0_stg0_0 : Ref sig .tc).ty.Contents (Elt F)) (w : (cc0_stg1_0 : Ref sig .tc).ty.Contents (Elt F)) : FVec F S64x64 .f32 :=
  k0_pay9 (F := F) (k0_pay8 (F := F) x) w

/-- The result on device `c`: rows `64 o` to `64 o + 63` are device `o`'s block of `x` times the device's `w`. -/
def outAt : (cc0_stg2_0 : Ref sig .tc).ty.Contents (Elt F) := fun i =>
  prod (xs (⟨((i : S1024x64.Idx) 0).val / 64, by have : ((i : S1024x64.Idx) 0).val < 1024 := ((i : S1024x64.Idx) 0).isLt; show _ < 16; omega⟩ : Fin 16)) (ws c)
    (fun a => match a with
      | ⟨0, _⟩ => ⟨((i : S1024x64.Idx) 0).val % 64, Nat.mod_lt _ (by decide)⟩
      | ⟨1, _⟩ => ⟨((i : S1024x64.Idx) 1).val, ((i : S1024x64.Idx) 1).isLt⟩)

abbrev oLoc : Loc nD τ sig := (c : Thread nD τ).loc cc0_stg2_0
abbrev xLoc : Loc nD τ sig := (c : Thread nD τ).loc cc0_stg0_0
abbrev wLoc : Loc nD τ sig := (c : Thread nD τ).loc cc0_stg1_0

/-- Rows of the result whose slot has been multiplied are done. -/
def outOk (f : (cc0_stg2_0 : Ref sig .tc).ty.Contents (Elt F)) : Prop :=
  ∀ k : Fin 28, σ (.gem k) = .over → ∀ i : S1024x64.Idx, (i 0).val / 64 = (origin c k.val).val → f i = outAt xs ws c i
def outC : sProp 𝕄 := iprop(∃ f : Buf (Elt F) (oLoc c), ⌜outOk xs ws c σ f⌝ ∗ oLoc c ↦{fullShare} f)

/-- Everything device `c` holds when its events stand as `σ` says. -/
def holds (K : Dev nD × Cx → ℕ) : sProp 𝕄 :=
  iprop(records xs K ∗ levAts L lv ∗ (∃ W : Waits sig Unit, owes (c : Thread nD τ) (owed c σ) W)
    ∗ bigSep Finset.univ (sigC c σ) ∗ barC c σ ∗ bigSep Finset.univ (sndC c σ) ∗ bigSep Finset.univ (gotC c σ)
    ∗ bigSep Finset.univ (rcvC c σ) ∗ bigSep Finset.univ (halfC xs c σ) ∗ outC xs ws c σ
    ∗ (xLoc c ↦{fullShare} xs c) ∗ (wLoc c ↦{fullShare} ws c))

/-! ## How the pieces change -/

section Change
variable {c σ} {e : Ev} {v : Stat}

omit [FloatOps F] in
theorem bigSep_upd {ι : Type} [Fintype ι] [DecidableEq ι] {Φ Ψ : ι → sProp 𝕄} (i : ι) (h : ∀ j, j ≠ i → Φ j = Ψ j) :
    bigSep Finset.univ Φ = iprop(Φ i ∗ bigSep (Finset.univ.erase i) Ψ) := by
  rw [bigSep_univ_split i, bigSep_congr fun j hj => h j (Finset.mem_erase.mp hj).1]; rfl
omit [FloatOps F] in
theorem bigSep_take {ι : Type} [DecidableEq ι] {s : Finset ι} {Φ : ι → sProp 𝕄} {i : ι} (hi : i ∈ s) :
    bigSep s Φ = iprop(Φ i ∗ bigSep (s.erase i) Φ) := bigSep_erase hi
omit [FloatOps F] in
theorem bigSep_at {ι : Type} [Fintype ι] [DecidableEq ι] {Φ : ι → sProp 𝕄} (i : ι) :
    bigSep Finset.univ Φ = iprop(Φ i ∗ bigSep (Finset.univ.erase i) Φ) := bigSep_upd i fun _ _ => rfl

omit [FloatOps F]

theorem sig_keep (h : ∀ i, Ev.sig i ≠ e) : sigC (F := F) c (Function.update σ e v) = sigC c σ := by
  funext i; unfold sigC; rw [Function.update_of_ne (h i)]
theorem bar_keep (h : Ev.bar ≠ e) : barC (F := F) c (Function.update σ e v) = barC c σ := by
  unfold barC; rw [Function.update_of_ne h]
theorem snd_keep (h : ∀ X, Ev.snd X ≠ e) (h' : ∀ X, Ev.wsn X ≠ e) : sndC (F := F) c (Function.update σ e v) = sndC c σ := by
  funext X; unfold sndC; rw [Function.update_of_ne (h X), Function.update_of_ne (h' X)]
theorem got_keep (h : ∀ X, Ev.snd X ≠ e) (h' : Ev.bar ≠ e) : gotC (F := F) c (Function.update σ e v) = gotC c σ := by
  funext X; unfold gotC; rw [Function.update_of_ne (h X), Function.update_of_ne h']
theorem rcv_keep (h : ∀ X, Ev.rcv X ≠ e) : rcvC (F := F) c (Function.update σ e v) = rcvC c σ := by
  funext X; unfold rcvC; rw [Function.update_of_ne (h X)]
theorem lent_keep (h : ∀ X, Ev.snd X ≠ e) (h' : ∀ X, Ev.wsn X ≠ e) (r : Fin 56) (a : Fin 4) : lent (Function.update σ e v) r a ↔ lent σ r a := by
  unfold lent; simp only [Function.update_of_ne (h _), Function.update_of_ne (h' _)]
theorem half_keep (h : ∀ X, Ev.snd X ≠ e) (h' : ∀ X, Ev.wsn X ≠ e) (hf : ∀ r, fillEv r ≠ e) :
    halfC xs c (Function.update σ e v) = halfC xs c σ := by
  funext r; unfold halfC lentC; simp only [Function.update_of_ne (hf _), lent_keep h h']

theorem fillEv_ne {r : Fin 56} {e : Ev} (h : ∀ X, Ev.rcv X ≠ e) (h' : Ev.init ≠ e) : fillEv r ≠ e := by
  unfold fillEv; split
  · exact h _
  · exact h'

theorem sig_at (i : Fin 6) (h : σ (.sig i) = .live) :
    bigSep Finset.univ (sigC (F := F) c σ) = iprop((dutyTok ER (barCell (sigDst c i)) 0 i ∗ barPay (sigDst c i) i)
      ∗ bigSep (Finset.univ) (sigC c (Function.update σ (.sig i) .over))) := by
  rw [bigSep_at i, bigSep_upd (Φ := sigC c (Function.update σ (.sig i) .over)) (Ψ := sigC (F := F) c σ) i fun j hj => by
    unfold sigC; rw [Function.update_of_ne (by simpa using hj)]]
  have h1 : sigC (F := F) c σ i = iprop(dutyTok ER (barCell (sigDst c i)) 0 i ∗ barPay (sigDst c i) i) := if_pos h
  have h2 : sigC (F := F) c (Function.update σ (.sig i) .over) i = iprop(emp) := if_neg (by rw [Function.update_self]; decide)
  rw [h1, h2]
  exact congrArg _ (eq_of_bi emp_sep).symm

/-- Sending changes a copy from to-be-sent to under way; -/
theorem snd_at (X : Fin 54) (h : σ (.snd X) = .live) (h' : σ (.wsn X) = .live) :
    ∃ R : sProp 𝕄, bigSep Finset.univ (sndC (F := F) c σ)
        = iprop((dutyTok ER (recvCell (dst c X) X) 0 0 ∗ dutyTok ER (sendCell c X) 0 0 ∗ atPos ER (sendCell c X) 0 ∅ 0) ∗ R)
      ∧ bigSep Finset.univ (sndC (F := F) c (Function.update σ (.snd X) .over))
        = iprop((cred (tallyAt (sendCell c X) () N) ∗ atPos ER (sendCell c X) 0 ∅ 0) ∗ R) := by
  refine ⟨bigSep (Finset.univ.erase X) (sndC c σ), ?_, ?_⟩
  · rw [bigSep_at X]; unfold sndC; rw [if_pos h]
  · rw [bigSep_upd (Ψ := sndC (F := F) c σ) X fun Y hY => by
      unfold sndC; rw [Function.update_of_ne (by simpa using hY), Function.update_of_ne (by simp)]]
    congr 1
    unfold sndC
    rw [if_neg (by rw [Function.update_self]; decide), Function.update_of_ne (by simp), h']
/-- waiting for its end, to done. -/
theorem wsn_at (X : Fin 54) (h : σ (.snd X) = .over) (h' : σ (.wsn X) = .live) :
    ∃ R : sProp 𝕄, bigSep Finset.univ (sndC (F := F) c σ) = iprop((cred (tallyAt (sendCell c X) () N) ∗ atPos ER (sendCell c X) 0 ∅ 0) ∗ R)
      ∧ bigSep Finset.univ (sndC (F := F) c (Function.update σ (.wsn X) .over)) = iprop(atPos ER (sendCell c X) 1 ∅ 0 ∗ R) := by
  refine ⟨bigSep (Finset.univ.erase X) (sndC c σ), ?_, ?_⟩
  · rw [bigSep_at X]; congr 1; unfold sndC; rw [if_neg (by rw [h]; decide), h']
  · rw [bigSep_upd (Ψ := sndC (F := F) c σ) X fun Y hY => by
      unfold sndC; rw [Function.update_of_ne (a := Ev.snd Y) (by simp), Function.update_of_ne (by simpa using hY)]]
    congr 1
    unfold sndC
    rw [Function.update_of_ne (a := Ev.snd X) (by simp), if_neg (by rw [h]; decide), Function.update_self]
theorem got_at (X : Fin 54) (h : σ (.snd X) = .live) (h' : σ .bar = .over) :
    bigSep Finset.univ (gotC (F := F) c σ) = iprop(free (dst c X) (dstHalf X) ∗ bigSep Finset.univ (gotC c (Function.update σ (.snd X) .over))) := by
  rw [bigSep_at X, bigSep_upd (Φ := gotC c (Function.update σ (.snd X) .over)) (Ψ := gotC (F := F) c σ) X fun Y hY => by
    unfold gotC; rw [Function.update_of_ne (by simpa using hY), Function.update_of_ne (by simp)]]
  have h1 : gotC (F := F) c σ X = free (dst c X) (dstHalf X) := if_pos ⟨h, h'⟩
  have h2 : gotC (F := F) c (Function.update σ (.snd X) .over) X = iprop(emp) := if_neg (by rw [Function.update_self]; exact fun h => absurd h.1 (by decide))
  rw [h1, h2]
  exact congrArg _ (eq_of_bi emp_sep).symm
theorem rcv_at (X : Fin 54) (h : σ (.rcv X) = .live) :
    ∃ R : sProp 𝕄, bigSep Finset.univ (rcvC (F := F) c σ) = iprop((cred (tallyAt (recvCell c X) () N) ∗ atPos ER (recvCell c X) 0 ∅ 0) ∗ R)
      ∧ bigSep Finset.univ (rcvC (F := F) c (Function.update σ (.rcv X) .over)) = iprop(atPos ER (recvCell c X) 1 ∅ 0 ∗ R) := by
  refine ⟨bigSep (Finset.univ.erase X) (rcvC c σ), ?_, ?_⟩
  · rw [bigSep_at X]; congr 1; unfold rcvC; rw [h]
  · rw [bigSep_upd (Ψ := rcvC (F := F) c σ) X fun Y hY => by
      unfold rcvC; rw [Function.update_of_ne (by simpa using hY)]]
    congr 1
    unfold rcvC; rw [Function.update_self]

variable (c)

/-- A send borrows its share of the half slot it reads; -/
theorem lend_out (X : Fin 54) (hf : σ (fillEv (srcHalf X)) = .over) (h : σ (.snd X) = .live) (h' : σ (.wsn X) = .live) :
    bigSep Finset.univ (halfC xs c σ) = iprop(sendPay xs c X ∗ bigSep Finset.univ (halfC xs c (Function.update σ (.snd X) .over))) := by
  have hfe (r : Fin 56) : Function.update σ (.snd X) .over (fillEv r) = σ (fillEv r) :=
    Function.update_of_ne (fillEv_ne (by simp) (by simp)) _ _
  have hl (r : Fin 56) (a : Fin 4) (hne : ¬(r = srcHalf X ∧ a = dirOf X)) : lent (Function.update σ (.snd X) .over) r a ↔ lent σ r a := by
    unfold lent
    refine exists_congr fun Y => ?_
    by_cases hY : Y = X
    · subst hY
      exact ⟨fun ⟨h1, h2, _⟩ => absurd ⟨h1.symm, h2.symm⟩ hne, fun ⟨h1, h2, _⟩ => absurd ⟨h1.symm, h2.symm⟩ hne⟩
    · simp [Function.update_apply, hY]
  have h1 : ¬lent σ (srcHalf X) (dirOf X) := fun ⟨Y, e1, e2, e3, _⟩ => by
    rw [src_dir_inj Y X e1 e2, h] at e3; cases e3
  have h2 : lent (Function.update σ (.snd X) .over) (srcHalf X) (dirOf X) :=
    ⟨X, rfl, rfl, Function.update_self .., by rw [Function.update_of_ne (by simp)]; exact h'⟩
  rw [bigSep_at (srcHalf X), bigSep_upd (Φ := halfC xs c (Function.update σ (.snd X) .over)) (Ψ := halfC xs c σ) (srcHalf X) fun r hr => by
    unfold halfC lentC; simp only [hfe, hl r _ fun h => hr h.1]]
  have e1 : halfC xs c σ (srcHalf X) = iprop(full xs c (srcHalf X) fullShare.left ∗ sendPay xs c X ∗ bigSep (Finset.univ.erase (dirOf X)) (lentC xs c σ (srcHalf X))) := by
    unfold halfC; rw [hf]; dsimp only
    rw [bigSep_at (dirOf X)]
    have : lentC xs c σ (srcHalf X) (dirOf X) = sendPay xs c X := if_neg h1
    rw [this]
  have e2 : halfC xs c (Function.update σ (.snd X) .over) (srcHalf X)
      = iprop(full xs c (srcHalf X) fullShare.left ∗ bigSep (Finset.univ.erase (dirOf X)) (lentC xs c σ (srcHalf X))) := by
    unfold halfC; rw [hfe, hf]; dsimp only
    rw [bigSep_upd (Ψ := lentC xs c σ (srcHalf X)) (dirOf X) fun a ha => by unfold lentC; simp only [hl _ _ fun h => ha h.2]]
    have : lentC xs c (Function.update σ (.snd X) .over) (srcHalf X) (dirOf X) = iprop(emp) := if_pos h2
    rw [this]
    exact congrArg _ (eq_of_bi emp_sep)
  rw [e1, e2]
  refine eq_of_bi ⟨?_, ?_⟩
  · iintro ⟨⟨H1, H2, H3⟩, H4⟩
    isplitl [H2]; · iexact H2
    isplitl [H1 H3]
    · isplitl [H1] <;> iassumption
    iexact H4
  · iintro ⟨H2, ⟨H1, H3⟩, H4⟩
    isplitl [H1 H2 H3]
    · isplitl [H1]; · iexact H1
      isplitl [H2] <;> iassumption
    iexact H4

/-- the wait for its end brings it back. -/
theorem lend_back (X : Fin 54) (hf : σ (fillEv (srcHalf X)) = .over) (h : σ (.snd X) = .over) (h' : σ (.wsn X) = .live) :
    bigSep Finset.univ (halfC xs c (Function.update σ (.wsn X) .over)) = iprop(sendPay xs c X ∗ bigSep Finset.univ (halfC xs c σ)) := by
  have h1 : Function.update (Function.update σ (.snd X) .live) (.snd X) .over = σ := by
    rw [Function.update_idem, ← h, Function.update_eq_self]
  have hl (r : Fin 56) (a : Fin 4) : lent (Function.update σ (.wsn X) .over) r a ↔ lent (Function.update σ (.snd X) .live) r a := by
    unfold lent
    refine exists_congr fun Y => ?_
    by_cases hY : Y = X
    · subst hY; simp
    · simp [Function.update_apply, hY]
  have h2 : halfC xs c (Function.update σ (.wsn X) .over) = halfC xs c (Function.update σ (.snd X) .live) := by
    funext r; unfold halfC lentC
    simp only [hl, Function.update_of_ne (fillEv_ne (r := r) (e := Ev.wsn X) (by simp) (by simp)), Function.update_of_ne (fillEv_ne (r := r) (e := Ev.snd X) (by simp) (by simp))]
  rw [h2, lend_out xs c X (σ := Function.update σ (.snd X) .live) (by rw [Function.update_of_ne (fillEv_ne (by simp) (by simp))]; exact hf)
    (Function.update_self ..) (by rw [Function.update_of_ne (by simp)]; exact h'), h1]

/-- Nothing is borrowed from a half slot before a copy that reads it is sent. -/
theorem all_shares (r : Fin 56) (hs : ∀ Y, srcHalf Y = r → σ (.snd Y) ≠ .over) :
    iprop(full xs c r fullShare.left ∗ bigSep Finset.univ (lentC xs c σ r)) = full xs c r fullShare := by
  rw [full_split]
  exact congrArg _ (bigSep_congr fun a _ => if_neg fun ⟨Y, e1, _, e3, _⟩ => hs Y e1 e3)

/-- An arrival fills its half slot. -/
theorem fill_in (X : Fin 54) (h : σ (.rcv X) = .live) (hs : ∀ Y, srcHalf Y = dstHalf X → σ (.snd Y) ≠ .over) :
    bigSep Finset.univ (halfC xs c (Function.update σ (.rcv X) .over)) = iprop(recvPay xs c X ∗ bigSep Finset.univ (halfC xs c σ)) := by
  have hX : (dstHalf X).val < 54 := X.isLt
  have hfx : fillEv (dstHalf X) = .rcv X := by unfold fillEv; rw [dif_pos hX]; rfl
  have hfr (r : Fin 56) (hr : r ≠ dstHalf X) : fillEv r ≠ .rcv X := by
    unfold fillEv; split
    · intro h; exact hr (Fin.ext (by have := congrArg Fin.val (Ev.rcv.inj h); exact this))
    · simp
  rw [bigSep_at (Φ := halfC xs c σ) (dstHalf X), bigSep_upd (Φ := halfC xs c (Function.update σ (.rcv X) .over)) (Ψ := halfC xs c σ) (dstHalf X) fun r hr => by
    unfold halfC lentC; simp only [Function.update_of_ne (hfr r hr), lent_keep (e := .rcv X) (by simp) (by simp)]]
  have e1 : halfC xs c σ (dstHalf X) = iprop(emp) := by unfold halfC; rw [hfx, h]; exact if_pos hX
  have e2 : halfC xs c (Function.update σ (.rcv X) .over) (dstHalf X) = recvPay xs c X := by
    unfold halfC; rw [hfx, Function.update_self]; dsimp only
    exact all_shares xs c _ fun Y hY => by rw [Function.update_of_ne (by simp)]; exact hs Y hY
  rw [e1, e2]
  exact congrArg _ (eq_of_bi emp_sep).symm

/-- Filling slot 0 fills its two halves. -/
theorem init_in (h : σ .init = .live) (hs : ∀ Y, (srcHalf Y).val ≥ 54 → σ (.snd Y) ≠ .over) :
    ∃ R : sProp 𝕄, bigSep Finset.univ (halfC xs c σ) = iprop(free c 54 ∗ free c 55 ∗ R)
      ∧ bigSep Finset.univ (halfC xs c (Function.update σ .init .over)) = iprop(full xs c 54 fullShare ∗ full xs c 55 fullShare ∗ R) := by
  have hfr (r : Fin 56) (hr : r ≠ 54) (hr' : r ≠ 55) : fillEv r ≠ .init := by
    unfold fillEv; split
    · simp
    · rename_i h1; exact absurd (show r = 54 ∨ r = 55 by omega) (by simp [hr, hr'])
  have e1 (r : Fin 56) (hr : 54 ≤ r.val) : halfC xs c σ r = free c r := by
    unfold halfC; rw [show fillEv r = .init from dif_neg (by omega), h]; exact if_neg (by omega)
  have e2 (r : Fin 56) (hr : 54 ≤ r.val) : halfC xs c (Function.update σ .init .over) r = full xs c r fullShare := by
    unfold halfC; rw [show fillEv r = .init from dif_neg (by omega), Function.update_self]; dsimp only
    exact all_shares xs c _ fun Y hY => by rw [Function.update_of_ne (by simp)]; exact hs Y (by rw [hY]; exact hr)
  have e3 (r : Fin 56) (hr : r ≠ 54) (hr' : r ≠ 55) : halfC xs c (Function.update σ .init .over) r = halfC xs c σ r := by
    unfold halfC lentC; simp only [Function.update_of_ne (hfr r hr hr'), lent_keep (e := .init) (by simp) (by simp)]
  refine ⟨bigSep ((Finset.univ.erase 54).erase 55) (halfC xs c σ), ?_, ?_⟩
  · rw [bigSep_at 54, bigSep_erase (i := (55 : Fin 56)) (by decide), e1 54 (by decide), e1 55 (by decide)]; rfl
  · rw [bigSep_at 54, bigSep_erase (i := (55 : Fin 56)) (by decide), e2 54 (by decide), e2 55 (by decide),
      bigSep_congr (s := (Finset.univ.erase 54).erase 55) fun r hr => e3 r (Finset.mem_erase.mp (Finset.mem_erase.mp hr).2).1 (Finset.mem_erase.mp hr).1]; rfl

/-- The elements of a slot. -/
def slotSet (k : Fin 28) : Finset S28x64x1024.Idx := rset (halfAt k 0) ∪ rset (halfAt k 1)

theorem mem_slotSet (k : Fin 28) (i : S28x64x1024.Idx) : i ∈ slotSet k ↔ (i 0).val = k.val := by
  unfold slotSet
  rw [Finset.mem_union, mem_rset, mem_rset, slot_halfAt, slot_halfAt, half_halfAt, half_halfAt]
  have : (i 1).val < 64 := (i 1).isLt
  show _ ∧ _ = 0 ∨ _ ∧ _ = 1 ↔ _
  omega
theorem halves_disjoint (k : Fin 28) : Disjoint (rset (halfAt k 0)) (rset (halfAt k 1)) :=
  rset_disjoint _ _ fun h => by have := congrArg halfOf h; rw [half_halfAt, half_halfAt] at this; exact absurd this (by decide)

theorem slot_join (k : Fin 28) (q : PosShare TreeShare) :
    iprop(full xs c (halfAt k 0) q ∗ full xs c (halfAt k 1) q) = (sLoc c ↦[slotSet k]{q} filledWith xs c : sProp 𝕄) := by
  unfold full slotSet
  exact (eq_of_bi (pointsTo_union (halves_disjoint k))).symm

/-- A filled slot can be read: what stays at the device of both its halves, at once. -/
theorem slot_at (k : Fin 28) (h0 : σ (fillEv (halfAt k 0)) = .over) (h1 : σ (fillEv (halfAt k 1)) = .over) :
    ∃ R : sProp 𝕄, bigSep Finset.univ (halfC xs c σ) = iprop((sLoc c ↦[slotSet k]{fullShare.left} filledWith xs c) ∗ R) := by
  have hne : halfAt k 1 ≠ halfAt k 0 := fun h => by have := congrArg halfOf h; rw [half_halfAt, half_halfAt] at this; exact absurd this (by decide)
  refine ⟨iprop(bigSep Finset.univ (lentC xs c σ (halfAt k 0)) ∗ bigSep Finset.univ (lentC xs c σ (halfAt k 1)) ∗ bigSep ((Finset.univ.erase (halfAt k 0)).erase (halfAt k 1)) (halfC xs c σ)), ?_⟩
  rw [bigSep_at (halfAt k 0), bigSep_take (Finset.mem_erase.mpr ⟨hne, Finset.mem_univ _⟩), ← slot_join]
  have e0 : halfC xs c σ (halfAt k 0) = iprop(full xs c (halfAt k 0) fullShare.left ∗ bigSep Finset.univ (lentC xs c σ (halfAt k 0))) := by unfold halfC; rw [h0]
  have e1 : halfC xs c σ (halfAt k 1) = iprop(full xs c (halfAt k 1) fullShare.left ∗ bigSep Finset.univ (lentC xs c σ (halfAt k 1))) := by unfold halfC; rw [h1]
  rw [e0, e1]
  refine eq_of_bi ⟨?_, ?_⟩
  · iintro ⟨⟨H1, H2⟩, ⟨H3, H4⟩, H5⟩
    isplitl [H1 H3]
    · isplitl [H1] <;> iassumption
    isplitl [H2]; · iexact H2
    isplitl [H4] <;> iassumption
  · iintro ⟨⟨H1, H3⟩, H2, H4, H5⟩
    isplitl [H1 H2]
    · isplitl [H1] <;> iassumption
    isplitl [H3 H4]
    · isplitl [H3] <;> iassumption
    iexact H5

/-- The handshake brings every half slot the device is to fill. -/
theorem bar_got (h : σ .bar = .live) (hs : ∀ X, σ (.snd X) = if act c X = true then .live else .off) :
    bigSep Finset.univ (gotC (F := F) c (Function.update σ .bar .over))
      = bigSep ((Rd (F := F) xs).duties (barCell c) 0 \ ∅) (fun d => (Rd (F := F) xs).payload (barCell c) 0 d)
    ∧ bigSep Finset.univ (gotC (F := F) c σ) = iprop(emp) := by
  constructor
  · rw [rest_bar]
    refine bigSep_congr fun X _ => ?_
    unfold gotC
    rw [Function.update_self, Function.update_of_ne (by simp), hs]
    by_cases ha : act c X = true
    · rw [if_pos ha, if_pos ha, if_pos ⟨rfl, rfl⟩]
    · rw [if_neg ha, if_neg ha, if_neg fun h => absurd h.1 (by decide)]
  · exact bigSep_emps fun X _ => if_neg fun h' => by rw [h] at h'; exact absurd h'.2 (by decide)

end Change

end Cert.KernelIdeal.Plan

end
-- ==== Proof.Steps.lean ====
/-
# 01_k — one event of the gather

Each lemma takes a device over one event: from what it holds before the operation (or the few operations) the event is in the
program to what it holds after, given that the rest of the program runs from there.
-/
module

public import proofs.«01_k».proof.Proof.State

@[expose] public section

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` from `P` to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Cx → ℕ)
variable (xs : Dev nD → (cc0_stg0_0 : Ref sig .tc).ty.Contents (Elt F)) (ws : Dev nD → (cc0_stg1_0 : Ref sig .tc).ty.Contents (Elt F))
variable (c : Dev nD)

/-- What device `c` holds once `n` events are over. -/
def St (n : ℕ) : sProp 𝕄 := holds xs ws c (stat c n) K

variable {K xs ws c}
variable {n : ℕ} {α : Type} {k : PUnit → Prog (TpuEff nD τ sig (Elt F) Λ₀ .tc) α}

theorem St_skip {e : Ev} (hev : evAt n = e) (hoff : on c e = false) : St K xs ws c (n + 1) = St K xs ws c n := by
  unfold St; rw [stat_skip hev hoff]

theorem rcv_late (X : Fin 54) : 8 ≤ pos (.rcv X) := by revert X; decide +kernel
theorem on_fill (c : Dev nD) (r : Fin 56) (h : filled c r = true) : on c (fillEv r) = true := by
  revert c r; decide +kernel
theorem fillEv_dst (X : Fin 54) : fillEv (dstHalf X) = .rcv X := dif_pos X.isLt

theorem out_keep {σ : Ev → Stat} {e : Ev} {v : Stat} (h : ∀ k, Ev.gem k ≠ e) : outC xs ws c (Function.update σ e v) = outC xs ws c σ := by
  unfold outC outOk; simp only [Function.update_of_ne (h _)]

theorem St_succ {e : Ev} (hn : n < 198) (hev : evAt n = e) (hon : on c e = true) :
    St K xs ws c (n + 1) = holds xs ws c (Function.update (stat c n) e .over) K := by
  unfold St; rw [stat_succ hn hev hon]

/-- A signal. -/
theorem step_sig {i : Fin 6} {Q : α → sProp 𝕄} (hn : n < 198) (hev : evAt n = .sig i) (hon : sigOn c i = true) {e : Dev nD} (he : e = sigDst c i)
    {s : Sem sig} (hs : s = barS) {z : ℤ} (hz : z = ((1 : ℕ) : ℤ)) (hk : St K xs ws c (n + 1) ⊢ runs c (k ⟨⟩) Q) :
    St K xs ws c n ⊢ runs c (.op (.semSignal (e : Thread nD τ) s z) k) Q := by
  subst he hs hz
  have hl : stat c n (.sig i) = .live := stat_self hn hev hon
  have hO := owed_sig c _ i hl
  rw [St_succ hn hev hon] at hk
  unfold holds at hk
  rw [bar_keep (by simp), snd_keep (by simp) (by simp), got_keep (by simp) (by simp), rcv_keep (by simp),
    half_keep xs (by simp) (by simp) (fun r => fillEv_ne (by simp) (by simp)), out_keep (by simp)] at hk
  unfold St holds
  rw [sig_at i hl]
  iintro ⟨#HR, #HL, ⟨%W, HO⟩, ⟨⟨Ht, Hp⟩, HA⟩, Hrest⟩
  iapply (Rounds.wp_signal 𝒱₀ ER (Rd xs) (c : Thread nD τ) none (dst := (sigDst c i : Thread nD τ)) (κ := K (sigDst c i, .inl ()))
      (d := i) (by rw [duties_bar]; exact sig_mem c i hon) rfl () (owed c (Function.update (stat c n) (.sig i) .over)) hO)
    $$ [HO Ht Hp]
  · isplitr; · iapply (records_inv xs K (sigDst c i, .inl ())); iexact HR
    isplitl [HO]; · iexact HO
    isplitl [Ht]; · iexact Ht
    isplitl [Hp]; · rw [payload_bar]; iexact Hp
    iapply (records_reached xs K (sigDst c i, .inl ())); iexact HR
  iintro HO
  iapply hk
  isplitr; · iexact HR
  isplitr; · iexact HL
  isplitl [HO]; · iexists W; iexact HO
  isplitl [HA]; · iexact HA
  iexact Hrest

/-- What is owed while a device waits for its signals, or for an arrival, lies above what it waits for. -/
theorem mayWait_bar (hn : n < 198) (hev : evAt n = .bar) :
    (levAts L lv : sProp 𝕄) ⊢ MayWait (c : Thread nD τ) (.reg barS) () (owed c (stat c n)) :=
  mayWait_of c _ _ fun g u hg => by
    have hpos : n = 6 := by rw [← pos_evAt hn, hev]; rfl
    subst hpos
    rcases owed_pos hg with ⟨X, hX, rfl⟩ | ⟨i, hi, rfl⟩
    · exact ⟨rfl, by cases u; rw [lv_recv]; show 1 < _; omega⟩
    · have h1 := (pos_of_live hi).2
      have h2 : pos (.sig i) = i.val := rfl
      omega
theorem mayWait_rcv {X : Fin 54} (hn : n < 198) (hev : evAt n = .rcv X) :
    (levAts L lv : sProp 𝕄) ⊢ MayWait (c : Thread nD τ) (.dma (recvS X)) () (owed c (stat c n)) :=
  mayWait_of c _ _ fun g u hg => by
    have hpos : n = pos (.rcv X) := by rw [← hev, pos_evAt hn]
    have hl : lvOf (.dma (recvS X)) = 2 + pos (.rcv X) := lv_recv c X
    rcases owed_pos hg with ⟨Y, hY, rfl⟩ | ⟨i, hi, rfl⟩
    · have h1 := (pos_of_live hY).2
      have h2 := snd_lt_rcv Y
      exact ⟨rfl, by cases u; rw [lv_recv, hl]; omega⟩
    · have h1 := (pos_of_live hi).2
      have h2 : pos (.sig i) = i.val := rfl
      have h3 := rcv_late X
      omega
theorem mayWait_wsn {X : Fin 54} (hn : n < 198) :
    (levAts L lv : sProp 𝕄) ⊢ MayWait (c : Thread nD τ) (.dma (sendS X)) () (owed c (stat c n)) :=
  mayWait_of c _ _ fun g u hg => by
    have hl : lvOf (.dma (sendS X)) = 0 := lv_send c X
    rw [hl]
    rcases owed_pos hg with ⟨Y, hY, rfl⟩ | ⟨i, hi, rfl⟩
    · exact ⟨rfl, by cases u; rw [lv_recv]; omega⟩
    · exact ⟨rfl, by cases u; rw [lv_bar]; omega⟩

/-- The wait for the four signals. -/
theorem step_bar {Q : α → sProp 𝕄} (hn : n < 198) (hev : evAt n = .bar) {s : Sem sig} (hs : s = barS) {z : ℤ} (hz : z = ((4 : ℕ) : ℤ))
    (hk : St K xs ws c (n + 1) ⊢ runs c (k ⟨⟩) Q) : St K xs ws c n ⊢ runs c (.op (.semWait s z) k) Q := by
  subst hs hz
  have hl : stat c n .bar = .live := stat_self hn hev rfl
  have hg := bar_got xs c hl fun X => by
    by_cases ha : act c X = true
    · rw [if_pos ha]; exact stat_live hn hev ha (bar_lt_snd X).le
    · rw [if_neg ha]; unfold stat; exact if_neg ha
  rw [St_succ hn hev rfl] at hk
  unfold holds at hk
  have hb : barC (F := F) c (Function.update (stat c n) .bar .over) = atPos ER (barCell c) 1 ∅ 0 := if_pos (Function.update_self ..)
  rw [owed_keep _ _ _ _ (by simp) (by simp), sig_keep (by simp), snd_keep (by simp) (by simp), rcv_keep (by simp),
    half_keep xs (by simp) (by simp) (fun r => fillEv_ne (by simp) (by simp)), out_keep (by simp), hg.1, hb] at hk
  unfold St holds
  rw [hg.2, show barC (F := F) c (stat c n) = iprop(cred (tallyAt (barCell c) () 4) ∗ atPos ER (barCell c) 0 ∅ 0) from if_neg (by rw [hl]; decide)]
  iintro ⟨#HR, #HL, ⟨%W, HO⟩, HA, ⟨Hc, Hat⟩, HC, -, Hrest⟩
  iapply (Rounds.wp_wait_rest_token 𝒱₀ ER (Rd xs) (c : Thread nD τ) none (κ := K (c, .inl ()))
      (wpE_semWait_eq 𝒱₀ (c : Thread nD τ) none Set.univ) (Set.mem_univ _) () (O := owed c (stat c n)) (W := W) (R := 0) (m := 0) (T := ∅)
      (by rw [expect_bar])) $$ [Hc HO Hat]
  · isplitr; · iapply (records_inv xs K (c, .inl ())); iexact HR
    isplitl [Hc]; · iexact Hc
    isplitl [HO]; · iexact HO
    isplitr; · iapply (mayWait_bar hn hev); iexact HL
    iexact Hat
  iintro ⟨HO, Hat, -, Hpay⟩
  iapply hk
  isplitr; · iexact HR
  isplitr; · iexact HL
  isplitl [HO]; · iexists _; iexact HO
  isplitl [HA]; · iexact HA
  isplitl [Hat]; · iexact Hat
  isplitl [HC]; · iexact HC
  isplitl [Hpay]; · iexact Hpay
  iexact Hrest

theorem amount_half (r : Fin 56) (q : DmaSem sig) : (half r).view.amount (.dma q) = N := rfl

/-- The send itself, at the cells of copy `X`. -/
theorem wp_snd {Q : α → sProp 𝕄} {X : Fin 54} (hon : act c X = true)
    {hsc : (half (dstHalf X) : Memref sig (Dev.tc (dst c X) : Thread nD τ).2.kind .vmem S32x1024 .f32).view.ref.isScScratch = false}
    {hsrc : (half (srcHalf X)).view.WordExact} {hdst : (half (dstHalf X)).view.WordExact}
    {hsem : DmaTarget.Typed .vmem (.dma (recvS X)) (.remote (Dev.tc (dst c X) : Thread nD τ) (half (dstHalf X)) (.dma (sendS X)) hsc)}
    (fd : (cc0_scratch0 : Ref sig .tc).ty.Contents (Elt F)) {O O₀ : CellTallies nD τ sig Unit} (hO : O₀ = O + tallyAt (recvCell (dst c X) X) () N) (W : Waits sig Unit) :
    iprop(cellInv ER (Rd xs) (K (c, .inr (.inl X))) (sendCell c X) ∗ cellInv ER (Rd xs) (K (dst c X, .inr (.inr X))) (recvCell (dst c X) X)
        ∗ sendPay xs c X ∗ (sLoc (dst c X) ↦[rset (dstHalf X)]{fullShare} fd)
        ∗ owes (c : Thread nD τ) O₀ W
        ∗ dutyTok ER (sendCell c X) 0 0 ∗ reached ER (sendCell c X) 0
        ∗ dutyTok ER (recvCell (dst c X) X) 0 0 ∗ reached ER (recvCell (dst c X) X) 0)
      ⊢ iprop(((cred (tallyAt (sendCell c X) () N) ∗ owes (c : Thread nD τ) O W) -∗ runs c (k ⟨⟩) Q)
          -∗ runs c (.op (.enqueueDma (half (srcHalf X)) (.remote (Dev.tc (dst c X) : Thread nD τ) (half (dstHalf X)) (.dma (sendS X)) hsc) (.dma (recvS X)) hsrc hdst hsem) k) Q) := by
  have h1 : (Rd (F := F) xs).duties (sendCell c X) 0 = {0} := by rw [duties_send, if_pos hon]
  have h2 : (Rd (F := F) xs).duties (recvCell (dst c X) X) 0 = {0} := by rw [duties_recv]; exact if_pos hon
  have hp1 : (sendPay xs c X : sProp 𝕄) ⊢ (Rd (F := F) xs).payload (sendCell c X) 0 0 := Entails.of_eq (payload_send xs c X 0).symm
  have hp2 : (sLoc (dst c X) ↦[rset (dstHalf X)]{fullShare} (half (dstHalf X)).view.write (Elt F) fd ((half (srcHalf X)).view.read (Elt F) (filledWith xs c)) Finset.univ : sProp 𝕄)
      ⊢ (Rd (F := F) xs).payload (recvCell (dst c X) X) 0 0 := by
    rw [payload_recv]; unfold recvPay full; exact Entails.of_eq (pointsTo_congr (landed xs c X hon fd))
  exact Rounds.wp_send_pointsTo 𝒱₀ ER (Rd xs) (c : Thread nD τ) none (κ₁ := K (c, .inr (.inl X))) (κ₂ := K (dst c X, .inr (.inr X)))
    (src := half (srcHalf X)) (dst := half (dstHalf X)) (sS := .dma (sendS X)) (sem := .dma (recvS X)) (c' := (Dev.tc (dst c X) : Thread nD τ))
    (r₁ := 0) (r₂ := 0) (d₁ := 0) (d₂ := 0) (q := lendShare (dirOf X)) (fs := filledWith xs c) (fd := fd)
    (by rw [h1]; exact Finset.mem_singleton_self _) (by rw [h2]; exact Finset.mem_singleton_self _)
    () () N (amount_half _ _) rfl rfl O hO hp1 hp2

/-- A send: it borrows a share of the half slot it reads and gives away the half slot it fills. -/
theorem step_snd {X : Fin 54} {Q : α → sProp 𝕄} (hn : n < 198) (hev : evAt n = .snd X) (hon : act c X = true) {a b a' b' : ℕ} {h h'}
    (ha : a = slotOf (srcHalf X)) (hb : b = rowOf (srcHalf X)) (ha' : a' = slotOf (dstHalf X)) (hb' : b' = rowOf (dstHalf X))
    {sS sR : DmaSem sig} (hsS : sS = sendS X) (hsR : sR = recvS X) {e : Dev nD} (he : e = dst c X)
    {hsc : (seg a' b' h' : Memref sig (Dev.tc e : Thread nD τ).2.kind .vmem S32x1024 .f32).view.ref.isScScratch = false}
    {hsrc : (seg a b h).view.WordExact} {hdst : (seg a' b' h').view.WordExact}
    {hsem : DmaTarget.Typed .vmem (.dma sR) (.remote (Dev.tc e : Thread nD τ) (seg a' b' h') (.dma sS) hsc)}
    (hk : St K xs ws c (n + 1) ⊢ runs c (k ⟨⟩) Q) :
    St K xs ws c n ⊢ runs c (.op (.enqueueDma (seg a b h) (.remote (Dev.tc e : Thread nD τ) (seg a' b' h') (.dma sS) hsc) (.dma sR) hsrc hdst hsem) k) Q := by
  subst he hsS hsR ha hb ha' hb'
  have hl : stat c n (.snd X) = .live := stat_self hn hev hon
  have hw : stat c n (.wsn X) = .live := stat_live hn hev hon (snd_lt_wsn X).le
  have hb : stat c n .bar = .over := stat_over hn hev rfl (bar_lt_snd X)
  have hf : stat c n (fillEv (srcHalf X)) = .over := stat_over hn hev (on_fill c _ (filled_src c X hon)) (fill_lt_snd X)
  have hO := owed_snd c _ X hl
  obtain ⟨R, hR₁, hR₂⟩ := snd_at (F := F) (c := c) X hl hw
  rw [St_succ hn hev hon] at hk
  unfold holds at hk
  rw [sig_keep (by simp), bar_keep (by simp), rcv_keep (by simp), out_keep (by simp), hR₂] at hk
  unfold St holds
  rw [hR₁, got_at X hl hb, lend_out xs c X hf hl hw]
  conv_lhs => unfold free
  iintro ⟨#HR, #HL, ⟨%W, HO⟩, HA, HB, ⟨⟨Ht₂, Ht₁, Hat⟩, HC⟩, ⟨⟨%fd, Hd⟩, HG⟩, HD, ⟨Hs, HE⟩, Hrest⟩
  iapply (wp_snd (K := K) hon fd hO W) $$ [HO Hs Hd Ht₁ Ht₂]
  · isplitr; · iapply (records_inv xs K (c, .inr (.inl X))); iexact HR
    isplitr; · iapply (records_inv xs K (dst c X, .inr (.inr X))); iexact HR
    isplitl [Hs]; · iexact Hs
    isplitl [Hd]; · iexact Hd
    isplitl [HO]; · iexact HO
    isplitl [Ht₁]; · iexact Ht₁
    isplitr; · iapply (records_reached xs K (c, .inr (.inl X))); iexact HR
    isplitl [Ht₂]; · iexact Ht₂
    iapply (records_reached xs K (dst c X, .inr (.inr X))); iexact HR
  iintro ⟨Hc, HO⟩
  iapply hk
  isplitr; · iexact HR
  isplitr; · iexact HL
  isplitl [HO]; · iexists W; iexact HO
  isplitl [HA]; · iexact HA
  isplitl [HB]; · iexact HB
  isplitl [Hc Hat HC]
  · isplitl [Hc Hat]
    · isplitl [Hc] <;> iassumption
    iexact HC
  isplitl [HG]; · iexact HG
  isplitl [HD]; · iexact HD
  isplitl [HE]; · iexact HE
  iexact Hrest

/-- The wait for an arrival. -/
theorem step_rcv {X : Fin 54} {Q : α → sProp 𝕄} (hn : n < 198) (hev : evAt n = .rcv X) (hon : land c X = true) {s : DmaSem sig} (hs : s = recvS X)
    {a b a' b' : ℕ} {h h'} {hsrc : (seg a b h).view.WordExact} {hdst : (seg a' b' h').view.WordExact}
    (hk : St K xs ws c (n + 1) ⊢ runs c (k ⟨⟩) Q) :
    St K xs ws c n ⊢ runs c (.op (.waitDma2 s (seg a b h) (seg a' b' h') hsrc hdst) k) Q := by
  subst hs
  have hl : stat c n (.rcv X) = .live := stat_self hn hev hon
  obtain ⟨R, hR₁, hR₂⟩ := rcv_at (F := F) (c := c) X hl
  rw [St_succ hn hev hon] at hk
  unfold holds at hk
  rw [owed_keep _ _ _ _ (by simp) (by simp), sig_keep (by simp), bar_keep (by simp), snd_keep (by simp) (by simp), got_keep (by simp) (by simp),
    out_keep (by simp), hR₂, fill_in xs c X hl fun Y hY => stat_not_over hn hev (by
      have := fill_lt_snd Y; rw [hY, fillEv_dst] at this; exact this.le)] at hk
  unfold St holds
  rw [hR₁]
  iintro ⟨#HR, #HL, ⟨%W, HO⟩, HA, HB, HC, HG, ⟨⟨Hc, Hat⟩, HD⟩, HE, Hrest⟩
  iapply (Rounds.wp_wait_rest_token 𝒱₀ ER (Rd xs) (c : Thread nD τ) none (κ := K (c, .inr (.inr X)))
      (wpE_waitDma2_eq 𝒱₀ (c : Thread nD τ) none Set.univ) (Set.mem_univ _) () (O := owed c (stat c n)) (W := W) (R := 0) (m := 0) (T := ∅)
      (by rw [Nat.zero_add, expect_recv xs c X hon])) $$ [Hc HO Hat]
  · isplitr; · iapply (records_inv xs K (c, .inr (.inr X))); iexact HR
    isplitl [Hc]; · iexact Hc
    isplitl [HO]; · iexact HO
    isplitr; · iapply (mayWait_rcv hn hev); iexact HL
    iexact Hat
  iintro ⟨HO, Hat, -, Hpay⟩
  ihave Hpay := (Entails.of_eq (rest_recv xs c X hon)) $$ Hpay
  iapply hk
  isplitr; · iexact HR
  isplitr; · iexact HL
  isplitl [HO]; · iexists _; iexact HO
  isplitl [HA]; · iexact HA
  isplitl [HB]; · iexact HB
  isplitl [HC]; · iexact HC
  isplitl [HG]; · iexact HG
  isplitl [Hat HD]
  · isplitl [Hat] <;> iassumption
  isplitl [Hpay HE]
  · isplitl [Hpay] <;> iassumption
  iexact Hrest

/-- The wait for the end of a send. -/
theorem step_wsn {X : Fin 54} {Q : α → sProp 𝕄} (hn : n < 198) (hev : evAt n = .wsn X) (hon : act c X = true) {s : DmaSem sig} (hs : s = sendS X)
    {a b a' b' : ℕ} {h h'} {hsrc : (seg a b h).view.WordExact} {hdst : (seg a' b' h').view.WordExact}
    (hk : St K xs ws c (n + 1) ⊢ runs c (k ⟨⟩) Q) :
    St K xs ws c n ⊢ runs c (.op (.waitDma2 s (seg a b h) (seg a' b' h') hsrc hdst) k) Q := by
  subst hs
  have hl : stat c n (.wsn X) = .live := stat_self hn hev hon
  have hs : stat c n (.snd X) = .over := stat_over hn hev hon (snd_lt_wsn X)
  have hf : stat c n (fillEv (srcHalf X)) = .over :=
    stat_over hn hev (on_fill c _ (filled_src c X hon)) ((fill_lt_snd X).trans (snd_lt_wsn X))
  obtain ⟨R, hR₁, hR₂⟩ := wsn_at (F := F) (c := c) X hs hl
  rw [St_succ hn hev hon] at hk
  unfold holds at hk
  rw [owed_keep _ _ _ _ (by simp) (by simp), sig_keep (by simp), bar_keep (by simp), rcv_keep (by simp), got_keep (by simp) (by simp),
    out_keep (by simp), hR₂, lend_back xs c X hf hs hl] at hk
  unfold St holds
  rw [hR₁]
  iintro ⟨#HR, #HL, ⟨%W, HO⟩, HA, HB, ⟨⟨Hc, Hat⟩, HC⟩, HG, HD, HE, Hrest⟩
  iapply (Rounds.wp_wait_rest_token 𝒱₀ ER (Rd xs) (c : Thread nD τ) none (κ := K (c, .inr (.inl X)))
      (wpE_waitDma2_eq 𝒱₀ (c : Thread nD τ) none Set.univ) (Set.mem_univ _) () (O := owed c (stat c n)) (W := W) (R := 0) (m := 0) (T := ∅)
      (by rw [Nat.zero_add, expect_send xs c X hon])) $$ [Hc HO Hat]
  · isplitr; · iapply (records_inv xs K (c, .inr (.inl X))); iexact HR
    isplitl [Hc]; · iexact Hc
    isplitl [HO]; · iexact HO
    isplitr; · iapply (mayWait_wsn hn); iexact HL
    iexact Hat
  iintro ⟨HO, Hat, -, Hpay⟩
  ihave Hpay := (Entails.of_eq (rest_send xs c X hon)) $$ Hpay
  iapply hk
  isplitr; · iexact HR
  isplitr; · iexact HL
  isplitl [HO]; · iexists _; iexact HO
  isplitl [HA]; · iexact HA
  isplitl [HB]; · iexact HB
  isplitl [Hat HC]
  · isplitl [Hat] <;> iassumption
  isplitl [HG]; · iexact HG
  isplitl [HD]; · iexact HD
  isplitl [Hpay HE]
  · isplitl [Hpay] <;> iassumption
  iexact Hrest

end Cert.KernelIdeal.Plan

end
-- ==== Proof.Compute.lean ====
/-
# 01_k — the two events that compute: filling slot 0, and multiplying a slot
-/
module

public import proofs.«01_k».proof.Proof.Steps
public import Idealize.ShloMosaic.Lib.Pipeline.Value

@[expose] public section

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A slot as a rectangle, and what is read from and written to it -/

abbrev slotRect (a : ℕ) (h : ∀ x, (![a, 0, 0] : Fin 3 → ℕ) x + S1x64x1024.size x ≤ S28x64x1024.size x) : Rect S28x64x1024 :=
  Rect.unit (s := S28x64x1024) ![a, 0, 0] S1x64x1024.size h

theorem slotRect_set (k : Fin 28) (h) : (slotRect k.val h).set = slotSet k := by
  ext i
  rw [Rect.mem_set_unit, mem_slotSet]
  constructor
  · intro hi
    have h0 : k.val ≤ (i 0).val ∧ (i 0).val < k.val + 1 := hi 0
    omega
  · intro h0 a
    fin_cases a
    · show k.val ≤ (i 0).val ∧ (i 0).val < k.val + 1; omega
    · show 0 ≤ (i 1).val ∧ (i 1).val < 0 + 64; exact ⟨Nat.zero_le _, by rw [Nat.zero_add]; exact (i 1).isLt⟩
    · show 0 ≤ (i 2).val ∧ (i 2).val < 0 + 1024; exact ⟨Nat.zero_le _, by rw [Nat.zero_add]; exact (i 2).isLt⟩

theorem access_set (k : Fin 28) (h) : (sM.access (slotRect k.val h)).setOn Finset.univ = slotSet k := by
  rw [← slotRect_set k h]
  exact (View.setOn_univ _).trans (View.set_slice_whole _ _)

theorem load_sub (k : Fin 28) (h) : sM.view.setOn (slotRect k.val h).set ⊆ slotSet k := by
  rw [← slotRect_set k h]
  intro x hx
  obtain ⟨y, hy, rfl⟩ := Finset.mem_map.mp hx
  exact hy

/-- The two halves of slot 0, whatever they hold, are the slot. -/
theorem free_join (c : Dev nD) (f g : (cc0_scratch0 : Ref sig .tc).ty.Contents (Elt F)) :
    iprop((sLoc c ↦[rset (halfAt 0 0)]{fullShare} f) ∗ (sLoc c ↦[rset (halfAt 0 1)]{fullShare} g) : sProp 𝕄)
      ⊢ sLoc c ↦[slotSet 0]{fullShare} (rset (halfAt 0 1)).piecewise g f :=
  pointsTo_join (halves_disjoint 0)

/-- A block of `x` as one slot holds it. -/
theorem pay8_apply (x : (cc0_stg0_0 : Ref sig .tc).ty.Contents (Elt F)) (y : S1x64x1024.Idx) :
    k0_pay8 (F := F) x y = x (fun a => y a.succ) := by
  unfold k0_pay8
  rw [shapeCast_self]
  exact shapeCast_addUnit_apply ![64, 1024] x _ y

variable (xs : Dev nD → (cc0_stg0_0 : Ref sig .tc).ty.Contents (Elt F)) (ws : Dev nD → (cc0_stg1_0 : Ref sig .tc).ty.Contents (Elt F))

theorem filled_emb (c : Dev nD) (k : Fin 28) (h) (y : S1x64x1024.Idx) :
    filledWith xs c ((sM.access (slotRect k.val h)).emb y) = k0_pay8 (F := F) (xs (origin c k.val)) y := by
  have e0 : (((sM.access (slotRect k.val h)).emb y : S28x64x1024.Idx) 0).val = k.val := by
    have : (y 0).val < 1 := (y 0).isLt
    show k.val + 1 * (y 0).val = k.val; omega
  have e1 : (((sM.access (slotRect k.val h)).emb y : S28x64x1024.Idx) 1).val = (y 1).val := by
    show 0 + 1 * (y 1).val = _; omega
  have e2 : (((sM.access (slotRect k.val h)).emb y : S28x64x1024.Idx) 2).val = (y 2).val := by
    show 0 + 1 * (y 2).val = _; omega
  rw [pay8_apply]
  unfold filledWith
  rw [e0]
  congr 1
  funext a
  match a with
  | ⟨0, _⟩ => exact Fin.ext e1
  | ⟨1, _⟩ => exact Fin.ext e2

/-- A filled slot reads as the block it is for. -/
theorem read_slot (c : Dev nD) (k : Fin 28) (h) :
    sM.view.readAt (Elt F) (slotRect k.val h).toLoadRect (filledWith xs c) = k0_pay8 (F := F) (xs (origin c k.val)) := by
  funext y; exact filled_emb xs c k h y

/-- Writing the device's own block to slot 0 fills it. -/
theorem write_slot (c : Dev nD) (h) (f : (cc0_scratch0 : Ref sig .tc).ty.Contents (Elt F)) :
    ∀ i ∈ slotSet 0, (sM.access (slotRect 0 h)).write (Elt F) f (k0_pay8 (F := F) (xs c)) Finset.univ i = filledWith xs c i := by
  intro i hi
  rw [← access_set 0 h] at hi
  obtain ⟨y, -, rfl⟩ := Finset.mem_map.mp hi
  refine (View.write_emb_of_mem (v := sM.access (slotRect 0 h)) (Val := Elt F) f _ (Finset.mem_univ y)).trans ?_
  have h0 : origin c 0 = c := by revert c; decide
  refine Eq.trans ?_ (filled_emb xs c 0 h y).symm
  show k0_pay8 (F := F) (xs c) y = k0_pay8 (F := F) (xs (origin c 0)) y
  rw [h0]

theorem hz2 : (![0, 0] : Fin 2 → Nat) = fun _ => 0 := funext fun a => by fin_cases a <;> rfl
theorem read_x (h) (f : (cc0_stg0_0 : Ref sig .tc).ty.Contents (Elt F)) :
    xM.view.readAt (Elt F) (Rect.unit (s := S64x1024) ![0, 0] S64x1024.size h).toLoadRect f = f := Memref.readAt_unit_zero (Elt F) cc0_stg0_0 hz2 _ f
theorem read_w (h) (f : (cc0_stg1_0 : Ref sig .tc).ty.Contents (Elt F)) :
    wM.view.readAt (Elt F) (Rect.unit (s := S1024x64) ![0, 0] S1024x64.size h).toLoadRect f = f := Memref.readAt_unit_zero (Elt F) cc0_stg1_0 hz2 _ f

/-! ## A block of the result -/

abbrev rowRect (o : ℕ) (h : ∀ x, (![o, 0] : Fin 2 → ℕ) x + S64x64.size x ≤ S1024x64.size x) : Rect S1024x64 :=
  Rect.unit (s := S1024x64) ![o, 0] S64x64.size h

/-- The result buffer after a store of a block. -/
abbrev wrote (r : Rect S1024x64) (f : (cc0_stg2_0 : Ref sig .tc).ty.Contents (Elt F)) (w : r.shape.Idx → Elt F .f32) :
    (cc0_stg2_0 : Ref sig .tc).ty.Contents (Elt F) := (oM.access r).write (Elt F) f w Finset.univ

/-- Multiplying slot `k` does the rows of the device the slot is for, and leaves the others. -/
theorem write_rows {c : Dev nD} {σ : Ev → Stat} {k : Fin 28} (hv : ∀ k', σ (.gem k') = .over → valid c (k'.val % 7) = true)
    (hk : valid c (k.val % 7) = true) {h} {f : (cc0_stg2_0 : Ref sig .tc).ty.Contents (Elt F)} (hf : outOk xs ws c σ f) :
    outOk xs ws c (Function.update σ (.gem k) .over)
      (wrote (rowRect (64 * (origin c k.val).val) h) f (prod (xs (origin c k.val)) (ws c))) := by
  intro k' hk' i hi
  by_cases he : k' = k
  · subst he
    have hlt : (i 0).val < 1024 := (i 0).isLt
    let y : S64x64.Idx := fun a => match a with
      | ⟨0, _⟩ => ⟨(i 0).val % 64, Nat.mod_lt _ (by decide)⟩
      | ⟨1, _⟩ => ⟨(i 1).val, (i 1).isLt⟩
    have hy : (oM.access (rowRect (64 * (origin c k'.val).val) h)).emb y = i := by
      funext a
      match a with
      | ⟨0, _⟩ => exact Fin.ext (show 64 * (origin c k'.val).val + 1 * ((i 0).val % 64) = (i 0).val by omega)
      | ⟨1, _⟩ => exact Fin.ext (show 0 + 1 * (i 1).val = (i 1).val by omega)
    conv_lhs => rw [← hy]
    refine (View.write_emb_of_mem (v := oM.access (rowRect (64 * (origin c k'.val).val) h)) (Val := Elt F) f _ (Finset.mem_univ y)).trans ?_
    show prod (xs (origin c k'.val)) (ws c) y = outAt xs ws c i
    unfold outAt
    have ho : (⟨(i 0).val / 64, by omega⟩ : Fin 16) = origin c k'.val := Fin.ext hi
    rw [← ho]
    rfl
  · rw [Function.update_of_ne (by simpa using he)] at hk'
    refine (View.write_of_not_mem (v := oM.access (rowRect (64 * (origin c k.val).val) h)) (Val := Elt F) f _ Finset.univ ?_).trans (hf k' hk' i hi)
    intro hm
    have hm' : i ∈ (rowRect (64 * (origin c k.val).val) h).set := by
      have := (View.setOn_univ (oM.access (rowRect (64 * (origin c k.val).val) h))).trans (View.set_slice_whole _ _)
      rw [this] at hm; exact hm
    rw [Rect.mem_set_unit] at hm'
    have h0 : 64 * (origin c k.val).val ≤ (i 0).val ∧ (i 0).val < 64 * (origin c k.val).val + 64 := hm' 0
    exact he (origin_inj c k' k (hv k' hk') hk (Fin.ext (by omega)))

/-! ## The events -/

variable {xs ws} {K : Dev nD × Cx → ℕ} {c : Dev nD} {n : ℕ} {α : Type} {k : PUnit → Prog (TpuEff nD τ sig (Elt F) Λ₀ .tc) α}

/-- Filling slot 0 with the device's own block. -/
theorem step_init {Q : α → sProp 𝕄} (hn : n < 198) (hev : evAt n = .init) {h₁ h₂ h₃ h₄ h₅ h₆} (hk : St K xs ws c (n + 1) ⊢ runs c (k ⟨⟩) Q) :
    St K xs ws c n ⊢ runs c (.op (.load xM (Rect.unit (s := S64x1024) ![0, 0] S64x1024.size h₁).toLoadRect h₂) fun v =>
      .op (.load sM (slotRect 0 h₃).toLoadRect h₄) fun _ => .op (.store sM (slotRect 0 h₃) (k0_pay8 v) Finset.univ h₅ h₆) k) Q := by
  have hl : stat c n .init = .live := stat_self hn hev rfl
  obtain ⟨R, hR₁, hR₂⟩ := init_in xs c (σ := stat c n) hl fun Y hY => stat_not_over hn hev (by
    have := fill_lt_snd Y; rw [show fillEv (srcHalf Y) = .init from dif_neg (by omega)] at this; exact this.le)
  rw [St_succ hn hev rfl] at hk
  unfold holds at hk
  rw [owed_keep _ _ _ _ (by simp) (by simp), sig_keep (by simp), bar_keep (by simp), snd_keep (by simp) (by simp), got_keep (by simp) (by simp),
    rcv_keep (by simp), out_keep (by simp), hR₂] at hk
  unfold St holds
  rw [hR₁]
  conv_lhs => unfold free
  iintro ⟨#HR, #HL, HO, HA, HB, HC, HG, HD, ⟨⟨%f, Hf⟩, ⟨%g, Hg⟩, HE⟩, HF, Hx, Hw⟩
  iapply (wp_load 𝒱₀ (c : Thread nD τ) none Set.univ (m := xM) (Finset.subset_univ _)) $$ Hx; iintro Hx
  rw [read_x]
  ihave Hs := (free_join c f g) $$ [Hf Hg]
  · isplitl [Hf]; · iexact Hf
    iexact Hg
  iapply (wp_load 𝒱₀ (c : Thread nD τ) none Set.univ (m := sM) (S := slotSet 0) (load_sub 0 h₃)) $$ Hs; iintro Hs
  iapply (wp_store 𝒱₀ (c : Thread nD τ) none Set.univ (m := sM) (r := slotRect 0 h₃) (Mk := Finset.univ) (S := slotSet 0) (access_set 0 h₃).le) $$ Hs; iintro Hs
  ihave Hs := (Entails.of_eq ((pointsTo_congr (write_slot xs c h₃ _)).trans (slot_join xs c 0 fullShare).symm)) $$ Hs
  icases Hs with ⟨H1, H2⟩
  iapply hk
  isplitr; · iexact HR
  isplitr; · iexact HL
  isplitl [HO]; · iexact HO
  isplitl [HA]; · iexact HA
  isplitl [HB]; · iexact HB
  isplitl [HC]; · iexact HC
  isplitl [HG]; · iexact HG
  isplitl [HD]; · iexact HD
  isplitl [H1 H2 HE]
  · isplitl [H1]; · iexact H1
    isplitl [H2]; · iexact H2
    iexact HE
  isplitl [HF]; · iexact HF
  isplitl [Hx] <;> iassumption

/-- Multiplying a slot by the device's `w` and writing the product to its rows of the result. -/
theorem step_gem {Q : α → sProp 𝕄} {s : Fin 28} (hn : n < 198) (hev : evAt n = .gem s) (hon : valid c (s.val % 7) = true)
    {off : Fin 2 → ℕ} (hoff : off = ![64 * (origin c s.val).val, 0]) {a : ℕ} (ha : a = s.val)
    {pay : Vec F S1x64x1024 .f32 → Vec F S1024x64 .f32 → FVec F S64x64 .f32} (hpay : pay = k0_pay9)
    {h₁ h₂ h₃ h₄ h₅ h₆ h₇ h₈} (hk : St K xs ws c (n + 1) ⊢ runs c (k ⟨⟩) Q) :
    St K xs ws c n ⊢ runs c (.op (.load sM (slotRect a h₁).toLoadRect h₂) fun v =>
      .op (.load wM (Rect.unit (s := S1024x64) ![0, 0] S1024x64.size h₃).toLoadRect h₄) fun w =>
      .op (.load oM (Rect.unit (s := S1024x64) off S64x64.size h₅).toLoadRect h₆) fun _ =>
      .op (.store oM (Rect.unit (s := S1024x64) off S64x64.size h₅) (pay v w) Finset.univ h₇ h₈) k) Q := by
  subst hoff ha hpay
  have hl : stat c n (.gem s) = .live := stat_self hn hev hon
  have hf (x : Fin 2) : stat c n (fillEv (halfAt s x)) = .over := stat_over hn hev (on_fill c _ (filled_halfAt c s x hon)) (fill_lt_gem s x)
  obtain ⟨R, hR⟩ := slot_at xs c s (hf 0) (hf 1)
  rw [St_succ hn hev hon] at hk
  unfold holds at hk
  rw [owed_keep _ _ _ _ (by simp) (by simp), sig_keep (by simp), bar_keep (by simp), snd_keep (by simp) (by simp), got_keep (by simp) (by simp),
    rcv_keep (by simp), half_keep xs (by simp) (by simp) (fun r => fillEv_ne (by simp) (by simp)), hR] at hk
  unfold St holds
  rw [hR]
  unfold outC at hk ⊢
  iintro ⟨#HR, #HL, HO, HA, HB, HC, HG, HD, ⟨Hs, HE⟩, ⟨%f, %hok, Hf⟩, Hx, Hw⟩
  iapply (wp_load 𝒱₀ (c : Thread nD τ) none Set.univ (m := sM) (S := slotSet s) (load_sub s h₁)) $$ Hs; iintro Hs
  rw [read_slot]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Hf; iintro Hf
  iapply (wp_store 𝒱₀ (c : Thread nD τ) none Set.univ (m := oM) (r := rowRect (64 * (origin c s.val).val) h₅) (Mk := Finset.univ) (Finset.subset_univ _)) $$ Hf; iintro Hf
  iapply hk
  isplitr; · iexact HR
  isplitr; · iexact HL
  isplitl [HO]; · iexact HO
  isplitl [HA]; · iexact HA
  isplitl [HB]; · iexact HB
  isplitl [HC]; · iexact HC
  isplitl [HG]; · iexact HG
  isplitl [HD]; · iexact HD
  isplitl [Hs HE]
  · isplitl [Hs] <;> iassumption
  isplitl [Hf]
  · iexists (wrote (rowRect (64 * (origin c s.val).val) h₅) f (prod (xs (origin c s.val)) (ws c)))
    isplitr
    · ipureintro; exact write_rows xs ws (fun k' hk' => on_of_over hk') hon hok
    iexact Hf
  isplitl [Hx] <;> iassumption

end Cert.KernelIdeal.Plan

end
-- ==== Proof.Walk.lean ====
/-
# 01_k — walking the printed program, block by block
-/
module

public import proofs.«01_k».proof.Proof.Compute
public import proofs.«01_k».proof.Proof.Gen.KernelIdeal.Skeleton

@[expose] public section

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conditional blocks -/

/-- Every event from the `n`-th up to the `n'`-th happens at the device; -/
def AllOn (c : Dev nD) (n n' : ℕ) : Prop := ∀ i < n' - n, on c (evAt (n + i)) = true
/-- none of them does. -/
def AllOff (c : Dev nD) (n n' : ℕ) : Prop := ∀ i < n' - n, on c (evAt (n + i)) = false
instance (c : Dev nD) (n n' : ℕ) : Decidable (AllOn c n n') := by unfold AllOn; infer_instance
instance (c : Dev nD) (n n' : ℕ) : Decidable (AllOff c n n') := by unfold AllOff; infer_instance

/-- A printed condition decides whether the events happen. -/
def Agrees (b : BitVec 1) (c : Dev nD) (n n' : ℕ) : Prop := n ≤ n' ∧ if b = 1#1 then AllOn c n n' else AllOff c n n'
instance (b : BitVec 1) (c : Dev nD) (n n' : ℕ) : Decidable (Agrees b c n n') := by unfold Agrees; infer_instance

theorem AllOn.at {c : Dev nD} {n n' : ℕ} (h : AllOn c n n') (m : ℕ) (h₁ : n ≤ m := by decide) (h₂ : m < n' := by decide) : on c (evAt m) = true := by
  have := h (m - n) (by omega); rwa [Nat.add_sub_cancel' h₁] at this

variable {xs : Dev nD → (cc0_stg0_0 : Ref sig .tc).ty.Contents (Elt F)} {ws : Dev nD → (cc0_stg1_0 : Ref sig .tc).ty.Contents (Elt F)}
variable {K : Dev nD × Cx → ℕ} {c : Dev nD} {n n' : ℕ} {α β : Type}

theorem St_skips (h : AllOff c n n') (hle : n ≤ n') : St K xs ws c n' = St K xs ws c n := by
  obtain ⟨d, rfl⟩ := Nat.exists_eq_add_of_le hle
  unfold AllOff at h
  rw [Nat.add_sub_cancel_left] at h
  clear hle
  induction d with
  | zero => rfl
  | succ d ih => exact (St_skip (K := K) (xs := xs) (ws := ws) (c := c) rfl (h d (Nat.lt_succ_self d))).trans (ih fun i hi => h i (Nat.lt_succ_of_lt hi))

/-- From the `n`-th event on, the program `p` gets to `Q`. -/
def Goes (K : Dev nD × Cx → ℕ) (xs : Dev nD → (cc0_stg0_0 : Ref sig .tc).ty.Contents (Elt F)) (ws : Dev nD → (cc0_stg1_0 : Ref sig .tc).ty.Contents (Elt F))
    (c : Dev nD) (n : ℕ) {α : Type} (p : Prog (TpuEff nD τ sig (Elt F) Λ₀ .tc) α) (Q : α → sProp 𝕄) : Prop := St K xs ws c n ⊢ runs c p Q

/-- At the `n`-th event a program that ended in `a` has got to `Q`. -/
def Ends (K : Dev nD × Cx → ℕ) (xs : Dev nD → (cc0_stg0_0 : Ref sig .tc).ty.Contents (Elt F)) (ws : Dev nD → (cc0_stg1_0 : Ref sig .tc).ty.Contents (Elt F))
    (c : Dev nD) (n : ℕ) {α : Type} (Q : α → sProp 𝕄) (a : α) : Prop := St K xs ws c n ⊢ Q a

/-- The end of a block. -/
theorem St_ret {a : α} {Q : α → sProp 𝕄} (h : Ends K xs ws c n Q a) : Goes K xs ws c n (.ret a) Q := by
  unfold Ends at h; unfold Goes runs; rw [wp_ret]; exact h.trans fupd_intro

/-- A block that runs under a condition, and what follows it. -/
theorem seq_when (n' : ℕ) {b : Dev nD → BitVec 1} {T : b c = 1#1 → Prog (TpuEff nD τ sig (Elt F) Λ₀ .tc) α}
    {E : Prog (TpuEff nD τ sig (Elt F) Λ₀ .tc) α} {Q : α → sProp 𝕄} (hE : Goes K xs ws c n' E Q)
    (hT : ∀ h : b c = 1#1, AllOn c n n' → (Goes K xs ws c n' E Q) → (Goes K xs ws c n (T h) Q))
    (hag : ∀ c, Agrees (b c) c n n' := by decide +kernel) :
    Goes K xs ws c n (if h : b c = 1#1 then T h else E) Q := by
  obtain ⟨hle, hag⟩ := hag c
  by_cases h : b c = 1#1
  · rw [if_pos h] at hag
    rw [dif_pos h]
    exact hT h hag hE
  · rw [if_neg h] at hag
    rw [dif_neg h]; unfold Goes; rw [← St_skips hag hle]
    exact hE

/-- The same where the condition is a word worked out before. -/
theorem seq_word (n' : ℕ) {b : BitVec 1} {T : b = 1#1 → Prog (TpuEff nD τ sig (Elt F) Λ₀ .tc) α}
    {E : Prog (TpuEff nD τ sig (Elt F) Λ₀ .tc) α} {Q : α → sProp 𝕄} (hag : Agrees b c n n') (hE : Goes K xs ws c n' E Q)
    (hT : ∀ h : b = 1#1, AllOn c n n' → (Goes K xs ws c n' E Q) → (Goes K xs ws c n (T h) Q)) :
    Goes K xs ws c n (if h : b = 1#1 then T h else E) Q := by
  obtain ⟨hle, hag⟩ := hag
  by_cases h : b = 1#1
  · rw [if_pos h] at hag
    rw [dif_pos h]
    exact hT h hag hE
  · rw [if_neg h] at hag
    rw [dif_neg h]; unfold Goes; rw [← St_skips hag hle]
    exact hE

/-- What is wanted of a part's result: that the rest of the program gets to `Q`. -/
def After (c : Dev nD) (k : β → Prog (TpuEff nD τ sig (Elt F) Λ₀ .tc) α) (Q : α → sProp 𝕄) (r : β) : sProp 𝕄 := runs c (k r) Q

/-- A part, and what follows it. -/
theorem seq_part {p : Prog (TpuEff nD τ sig (Elt F) Λ₀ .tc) β} {k : β → Prog (TpuEff nD τ sig (Elt F) Λ₀ .tc) α} {Q : α → sProp 𝕄}
    (h : Goes K xs ws c n p (After c k Q)) : Goes K xs ws c n (p >>= k) Q := by
  unfold Goes After runs at h; unfold Goes runs; rw [wp_bind_eq]; exact h

/-- What follows a part starts where the part ends. -/
theorem Ends.of {k : β → Prog (TpuEff nD τ sig (Elt F) Λ₀ .tc) α} {Q : α → sProp 𝕄} {r : β} (h : Goes K xs ws c n (k r) Q) :
    Ends K xs ws c n (After c k Q) r := h

/-- A device's own number. -/
theorem step_dev {k : Dev nD → Prog (TpuEff nD τ sig (Elt F) Λ₀ .tc) α} {Q : α → sProp 𝕄} (hk : Goes K xs ws c n (k c) Q) :
    Goes K xs ws c n (.op .deviceId k) Q := by
  unfold Goes runs; rw [wp_deviceId]; exact hk

/-! ## The printed parts, at the buffers and semaphores the launch calls them with -/

/-- A printed part before its buffers and semaphores are given. -/
abbrev Args (β : Type 1) : Type 1 :=
  (arg0 : Memref sig .tc .vmem S64x1024 .f32) → arg0.IsWhole → (arg1 : Memref sig .tc .vmem S1024x64 .f32) → arg1.IsWhole →
  (arg2 : Memref sig .tc .vmem S1024x64 .f32) → arg2.IsWhole → (arg3 : Memref sig .tc .vmem S28x64x1024 .f32) → arg3.IsWhole →
  DmaSems sig S3x2 → DmaSems sig S3x2 → DmaSems sig S3x2 → DmaSems sig S3x2 → DmaSems sig S2x7x2 → DmaSems sig S2x7x2 →
  DmaSems sig S2x7x1 → DmaSems sig S2x7x1 → β

/-- The part with the kernel's own. -/
abbrev app {β : Type 1} (p : Args β) : β :=
  p xM (Memref.isWhole_whole _) wM (Memref.isWhole_whole _) oM (Memref.isWhole_whole _) sM (Memref.isWhole_whole _)
    cc0_scratch1 cc0_scratch2 cc0_scratch3 cc0_scratch4 cc0_scratch5 cc0_scratch6 cc0_scratch7 cc0_scratch8

/-- The row of chips a device is in, as the program has it. -/
def gW (c : Dev nD) : BitVec 32 := BitVec.ofNat 32 (c.val / 4)

abbrev barA : Sems sig S_ := SemArray.scalar (sig.barrier 0 rfl)

section steps
variable {k : PUnit → Prog (TpuEff nD τ sig (Elt F) Λ₀ .tc) α}

/-- The barrier signal to a neighbour, as printed. -/
theorem do_sig (i : Fin 6) {d : Dev nD → ℕ} (hd : ∀ c, sigOn c i = true → d c = (sigDst c i).val) (ha : on c (evAt n) = true)
    {hlt : d c < nD} {s : Sem sig} {z : ℤ} {Q : α → sProp 𝕄} (hk : Goes K xs ws c (n + 1) (k ⟨⟩) Q)
    (hn : n < 198 := by decide) (hev : evAt n = .sig i := by rfl) (hs : s = barS := by rfl) (hz : z = ((1 : ℕ) : ℤ) := by rfl) :
    Goes K xs ws c n (.op (.semSignal (((⟨d c, hlt⟩ : Dev nD) : Thread nD τ)) s z) k) Q := by
  rw [hev] at ha
  exact step_sig hn hev ha (Fin.ext (hd c ha)) hs hz hk

/-- The barrier signal to oneself, as printed. -/
theorem do_here (i : Fin 6) (hd : ∀ c, sigOn c i = true → sigDst c i = c) (ha : on c (evAt n) = true)
    {s : Sem sig} {z : ℤ} {Q : α → sProp 𝕄} (hk : Goes K xs ws c (n + 1) (k ⟨⟩) Q)
    (hn : n < 198 := by decide) (hev : evAt n = .sig i := by rfl) (hs : s = barS := by rfl) (hz : z = ((1 : ℕ) : ℤ) := by rfl) :
    Goes K xs ws c n (.op .deviceId fun d => .op (.semSignal (d, Proc.tc) s z) k) Q := by
  rw [hev] at ha
  exact step_dev (step_sig hn hev ha (hd c ha).symm hs hz hk)

/-- A copy, as printed. -/
theorem do_snd (X : Fin 54) {d : Dev nD → ℕ} (hd : ∀ c, act c X = true → d c = (dst c X).val) (ha : on c (evAt n) = true)
    {hlt : d c < nD} {a b a' b' : ℕ} {h h'} {sS sR : DmaSem sig} {Q : α → sProp 𝕄}
    {hsc : (seg a' b' h' : Memref sig (Dev.tc (⟨d c, hlt⟩ : Dev nD) : Thread nD τ).2.kind .vmem S32x1024 .f32).view.ref.isScScratch = false}
    {hsrc : (seg a b h).view.WordExact} {hdst : (seg a' b' h').view.WordExact}
    {hsem : DmaTarget.Typed .vmem (.dma sR) (.remote (Dev.tc (⟨d c, hlt⟩ : Dev nD) : Thread nD τ) (seg a' b' h') (.dma sS) hsc)}
    (hk : Goes K xs ws c (n + 1) (k ⟨⟩) Q)
    (hn : n < 198 := by decide) (hev : evAt n = .snd X := by rfl)
    (h₁ : a = slotOf (srcHalf X) := by rfl) (h₂ : b = rowOf (srcHalf X) := by rfl)
    (h₃ : a' = slotOf (dstHalf X) := by rfl) (h₄ : b' = rowOf (dstHalf X) := by rfl)
    (h₅ : sS = sendS X := by rfl) (h₆ : sR = recvS X := by rfl) :
    Goes K xs ws c n (.op (.enqueueDma (seg a b h) (.remote (Dev.tc (⟨d c, hlt⟩ : Dev nD) : Thread nD τ) (seg a' b' h') (.dma sS) hsc) (.dma sR)
      hsrc hdst hsem) k) Q := by
  rw [hev] at ha
  exact step_snd hn hev ha h₁ h₂ h₃ h₄ h₅ h₆ (Fin.ext (hd c ha)) hk

/-- The wait for a copy's landing, as printed. -/
theorem do_rcv (X : Fin 54) (ha : on c (evAt n) = true) {s : DmaSem sig} {a b a' b' : ℕ} {h h'}
    {hsrc : (seg a b h).view.WordExact} {hdst : (seg a' b' h').view.WordExact} {Q : α → sProp 𝕄}
    (hk : Goes K xs ws c (n + 1) (k ⟨⟩) Q)
    (hn : n < 198 := by decide) (hev : evAt n = .rcv X := by rfl) (hs : s = recvS X := by rfl) :
    Goes K xs ws c n (.op (.waitDma2 s (seg a b h) (seg a' b' h') hsrc hdst) k) Q := by
  rw [hev] at ha
  exact step_rcv hn hev ha hs hk

/-- The wait for a copy's having left, as printed. -/
theorem do_wsn (X : Fin 54) (ha : on c (evAt n) = true) {s : DmaSem sig} {a b a' b' : ℕ} {h h'}
    {hsrc : (seg a b h).view.WordExact} {hdst : (seg a' b' h').view.WordExact} {Q : α → sProp 𝕄}
    (hk : Goes K xs ws c (n + 1) (k ⟨⟩) Q)
    (hn : n < 198 := by decide) (hev : evAt n = .wsn X := by rfl) (hs : s = sendS X := by rfl) :
    Goes K xs ws c n (.op (.waitDma2 s (seg a b h) (seg a' b' h') hsrc hdst) k) Q := by
  rw [hev] at ha
  exact step_wsn hn hev ha hs hk

/-- The wait for the neighbours, as printed. -/
theorem do_bar {s : Sem sig} {z : ℤ} {Q : α → sProp 𝕄} (hk : Goes K xs ws c (n + 1) (k ⟨⟩) Q)
    (hn : n < 198 := by decide) (hev : evAt n = .bar := by rfl) (hs : s = barS := by rfl) (hz : z = ((4 : ℕ) : ℤ) := by rfl) :
    Goes K xs ws c n (.op (.semWait s z) k) Q :=
  step_bar hn hev hs hz hk

/-- The block copied into the first slot, as printed. -/
theorem do_init {Q : α → sProp 𝕄} {h₁ h₂ h₃ h₄ h₅ h₆} (hk : Goes K xs ws c (n + 1) (k ⟨⟩) Q)
    (hn : n < 198 := by decide) (hev : evAt n = .init := by rfl) :
    Goes K xs ws c n (.op (.load xM (Rect.unit (s := S64x1024) ![0, 0] S64x1024.size h₁).toLoadRect h₂) fun v =>
      .op (.load sM (slotRect 0 h₃).toLoadRect h₄) fun _ => .op (.store sM (slotRect 0 h₃) (k0_pay8 v) Finset.univ h₅ h₆) k) Q :=
  step_init hn hev hk

/-- The product of a slot, as printed. -/
theorem do_gem (s : Fin 28) {off : Dev nD → Fin 2 → ℕ} (hd : ∀ c, valid c (s.val % 7) = true → off c = ![64 * (origin c s.val).val, 0])
    (ha : on c (evAt n) = true) {a : ℕ} {pay : Vec F S1x64x1024 .f32 → Vec F S1024x64 .f32 → FVec F S64x64 .f32}
    {h₁ h₂ h₃ h₄ h₅ h₆ h₇ h₈} {Q : α → sProp 𝕄} (hk : Goes K xs ws c (n + 1) (k ⟨⟩) Q)
    (hn : n < 198 := by decide) (hev : evAt n = .gem s := by rfl) (hs : a = s.val := by rfl) (hp : pay = k0_pay9 := by rfl) :
    Goes K xs ws c n (.op (.load sM (slotRect a h₁).toLoadRect h₂) fun v =>
      .op (.load wM (Rect.unit (s := S1024x64) ![0, 0] S1024x64.size h₃).toLoadRect h₄) fun w =>
      .op (.load oM (Rect.unit (s := S1024x64) (off c) S64x64.size h₅).toLoadRect h₆) fun _ =>
      .op (.store oM (Rect.unit (s := S1024x64) (off c) S64x64.size h₅) (pay v w) Finset.univ h₇ h₈) k) Q := by
  rw [hev] at ha
  exact step_gem hn hev ha (hd c ha) hs hp hk

end steps

set_option maxRecDepth 65536 in
/-- The first event: a device's numbers, and the first signal. -/
theorem part43 {Q : (Σ' (d0 : Dev nD) (v2 : BitVec 32) (v3 : BitVec 32) (v20 : BitVec 32) (v24 : BitVec 32) (v28 : BitVec 32) (v29 : BitVec 32) (v30 : BitVec 32) (v31 : Sems sig S_), BitVec 32) → sProp 𝕄}
    (hk : ∀ r, r.1 = c → r.2.2.2.1 = gW c → r.2.2.2.2.2.2.2.2.1 = barA → Ends K xs ws c 1 Q r) :
    Goes K xs ws c 0 (app (k0_part43 (F := F))) Q := by
  rw [k0_part43_eq_skeleton]
  unfold app k0_part43_skel
  simp -zeta -proj only [semSignalWord, semSignalHereWord, semWaitWord, Prog.lift, Prog.bind_op, Prog.bind_ret, Prog.pure_eq_ret, Prog.bind_assoc]
  refine step_dev ?_
  refine do_sig 0 (by decide +kernel) rfl ?_
  exact St_ret (hk _ rfl (by clear hk; revert c; decide +kernel) rfl)

set_option maxRecDepth 65536 in
/-- The other signals, the wait for the neighbours, the block into the first slot, the first copy. -/
theorem part44 {d0 : Dev nD} {v20 v29 v30 v34 : BitVec 32} {v31 : Sems sig S_} {Q : (Σ' (v62 : BitVec 1), BitVec 32) → sProp 𝕄}
    (hd : d0 = c) (h20 : v20 = gW c) (hb : v31 = barA) (hk : ∀ r, Ends K xs ws c 9 Q r) :
    Goes K xs ws c 1 (app (k0_part44 (F := F)) d0 v20 v29 v30 v31 v34) Q := by
  obtain rfl := hd.symm
  subst h20
  subst hb
  rw [k0_part44_eq_skeleton]
  unfold app k0_part44_skel
  simp -zeta -proj only [semSignalWord, semSignalHereWord, semWaitWord, Prog.lift, Prog.bind_op, Prog.bind_ret, Prog.pure_eq_ret, Prog.bind_assoc]
  refine do_sig 1 (by decide +kernel) rfl ?_
  refine seq_when 3 ?_ fun h ha hE => by exact do_sig 2 (by decide +kernel) (ha.at 2) hE
  refine seq_when 4 ?_ fun h ha hE => by exact do_sig 3 (by decide +kernel) (ha.at 3) hE
  refine seq_word 5 (by clear hk; revert c; decide +kernel) ?_ fun h ha hE => by exact do_here 4 (by decide +kernel) (ha.at 4) hE
  refine seq_word 6 (by clear hk; revert c; decide +kernel) ?_ fun h ha hE => by exact do_here 5 (by decide +kernel) (ha.at 5) hE
  refine do_bar ?_
  refine do_init ?_
  refine seq_when 9 ?_ fun h ha hE => by exact do_snd 0 (by decide +kernel) (ha.at 8) hE
  exact St_ret (hk _)

end Cert.KernelIdeal.Plan

end
-- ==== Proof.Inner.lean ====
/-
# 01_k — the parts inside the conditional blocks: straight runs of events
-/
module

public import proofs.«01_k».proof.Proof.Walk

@[expose] public section

set_option maxRecDepth 65536

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {xs : Dev nD → (cc0_stg0_0 : Ref sig .tc).ty.Contents (Elt F)} {ws : Dev nD → (cc0_stg1_0 : Ref sig .tc).ty.Contents (Elt F)}
variable {K : Dev nD × Cx → ℕ} {c : Dev nD}

/-- The landing of copy 12, copy 40 out. -/
theorem part1 {v2 : BitVec 32} {v24 : BitVec 32} {h : k0_cond25 c = 1#1} {Q : (PUnit) → sProp 𝕄} (ha : AllOn c 35 43) (hk : ∀ r, Ends K xs ws c 37 Q r) :
    Goes K xs ws c 35 (app (k0_part1 (F := F)) c v2 v24 h) Q := by
  rw [k0_part1_eq_skeleton]
  unfold app k0_part1_skel
  simp -zeta -proj only [semSignalWord, semSignalHereWord, semWaitWord, Prog.lift, Prog.bind_op, Prog.bind_ret, Prog.pure_eq_ret, Prog.bind_assoc]
  refine do_rcv 12 (ha.at 35) ?_
  refine do_snd 40 (by decide +kernel) (ha.at 36) ?_
  exact St_ret (hk _)

/-- The landing of copy 26, the landing of copy 13, the landing of copy 27. -/
theorem part2 {v2 : BitVec 32} {Q : (PUnit) → sProp 𝕄} (ha : AllOn c 35 43) (hk : ∀ r, Ends K xs ws c 40 Q r) :
    Goes K xs ws c 37 (app (k0_part2 (F := F)) v2) Q := by
  rw [k0_part2_eq_skeleton]
  unfold app k0_part2_skel
  simp -zeta -proj only [semSignalWord, semSignalHereWord, semWaitWord, Prog.lift, Prog.bind_op, Prog.bind_ret, Prog.pure_eq_ret, Prog.bind_assoc]
  refine do_rcv 26 (ha.at 37) ?_
  refine do_rcv 13 (ha.at 38) ?_
  refine do_rcv 27 (ha.at 39) ?_
  exact St_ret (hk _)

/-- Copy 47 out, the product of slot 7. -/
theorem part3 {v3 : BitVec 32} {v20 : BitVec 32} {v28 : BitVec 32} {h : k0_cond25 c = 1#1} {Q : (Σ' (v715 : BitVec 32), BitVec 32) → sProp 𝕄} (ha : AllOn c 35 43) (hk : ∀ r, Ends K xs ws c 42 Q r) :
    Goes K xs ws c 40 (app (k0_part3 (F := F)) c v3 v20 v28 h) Q := by
  rw [k0_part3_eq_skeleton]
  unfold app k0_part3_skel
  simp -zeta -proj only [semSignalWord, semSignalHereWord, semWaitWord, Prog.lift, Prog.bind_op, Prog.bind_ret, Prog.pure_eq_ret, Prog.bind_assoc]
  refine do_snd 47 (by decide +kernel) (ha.at 40) ?_
  refine do_gem 7 (off := fun c => k0_off4 c 4294967295#32) (by decide +kernel) (ha.at 41) ?_
  exact St_ret (hk _)

/-- The landing of copy 20, copy 44 out. -/
theorem part4 {v2 : BitVec 32} {v24 : BitVec 32} {h : k0_cond40 c = 1#1} {Q : (PUnit) → sProp 𝕄} (ha : AllOn c 61 69) (hk : ∀ r, Ends K xs ws c 63 Q r) :
    Goes K xs ws c 61 (app (k0_part4 (F := F)) c v2 v24 h) Q := by
  rw [k0_part4_eq_skeleton]
  unfold app k0_part4_skel
  simp -zeta -proj only [semSignalWord, semSignalHereWord, semWaitWord, Prog.lift, Prog.bind_op, Prog.bind_ret, Prog.pure_eq_ret, Prog.bind_assoc]
  refine do_rcv 20 (ha.at 61) ?_
  refine do_snd 44 (by decide +kernel) (ha.at 62) ?_
  exact St_ret (hk _)

/-- The landing of copy 34, the landing of copy 21, the landing of copy 35. -/
theorem part5 {v2 : BitVec 32} {Q : (PUnit) → sProp 𝕄} (ha : AllOn c 61 69) (hk : ∀ r, Ends K xs ws c 66 Q r) :
    Goes K xs ws c 63 (app (k0_part5 (F := F)) v2) Q := by
  rw [k0_part5_eq_skeleton]
  unfold app k0_part5_skel
  simp -zeta -proj only [semSignalWord, semSignalHereWord, semWaitWord, Prog.lift, Prog.bind_op, Prog.bind_ret, Prog.pure_eq_ret, Prog.bind_assoc]
  refine do_rcv 34 (ha.at 63) ?_
  refine do_rcv 21 (ha.at 64) ?_
  refine do_rcv 35 (ha.at 65) ?_
  exact St_ret (hk _)

/-- Copy 51 out, the product of slot 11. -/
theorem part6 {v3 : BitVec 32} {v20 : BitVec 32} {v28 : BitVec 32} {h : k0_cond40 c = 1#1} {Q : (Σ' (v715 : BitVec 32), BitVec 32) → sProp 𝕄} (ha : AllOn c 61 69) (hk : ∀ r, Ends K xs ws c 68 Q r) :
    Goes K xs ws c 66 (app (k0_part6 (F := F)) c v3 v20 v28 h) Q := by
  rw [k0_part6_eq_skeleton]
  unfold app k0_part6_skel
  simp -zeta -proj only [semSignalWord, semSignalHereWord, semWaitWord, Prog.lift, Prog.bind_op, Prog.bind_ret, Prog.pure_eq_ret, Prog.bind_assoc]
  refine do_snd 51 (by decide +kernel) (ha.at 66) ?_
  refine do_gem 11 (off := fun c => k0_off7 c 4294967295#32) (by decide +kernel) (ha.at 67) ?_
  exact St_ret (hk _)

/-- The landing of copy 14, copy 41 out. -/
theorem part7 {v2 : BitVec 32} {v24 : BitVec 32} {h : k0_cond41 c = 1#1} {Q : (PUnit) → sProp 𝕄} (ha : AllOn c 69 77) (hk : ∀ r, Ends K xs ws c 71 Q r) :
    Goes K xs ws c 69 (app (k0_part7 (F := F)) c v2 v24 h) Q := by
  rw [k0_part7_eq_skeleton]
  unfold app k0_part7_skel
  simp -zeta -proj only [semSignalWord, semSignalHereWord, semWaitWord, Prog.lift, Prog.bind_op, Prog.bind_ret, Prog.pure_eq_ret, Prog.bind_assoc]
  refine do_rcv 14 (ha.at 69) ?_
  refine do_snd 41 (by decide +kernel) (ha.at 70) ?_
  exact St_ret (hk _)

/-- The landing of copy 28, the landing of copy 15, the landing of copy 29. -/
theorem part8 {v2 : BitVec 32} {Q : (PUnit) → sProp 𝕄} (ha : AllOn c 69 77) (hk : ∀ r, Ends K xs ws c 74 Q r) :
    Goes K xs ws c 71 (app (k0_part8 (F := F)) v2) Q := by
  rw [k0_part8_eq_skeleton]
  unfold app k0_part8_skel
  simp -zeta -proj only [semSignalWord, semSignalHereWord, semWaitWord, Prog.lift, Prog.bind_op, Prog.bind_ret, Prog.pure_eq_ret, Prog.bind_assoc]
  refine do_rcv 28 (ha.at 71) ?_
  refine do_rcv 15 (ha.at 72) ?_
  refine do_rcv 29 (ha.at 73) ?_
  exact St_ret (hk _)

/-- Copy 48 out, the product of slot 8. -/
theorem part9 {v3 : BitVec 32} {v20 : BitVec 32} {v28 : BitVec 32} {h : k0_cond41 c = 1#1} {Q : (Σ' (v715 : BitVec 32), BitVec 32) → sProp 𝕄} (ha : AllOn c 69 77) (hk : ∀ r, Ends K xs ws c 76 Q r) :
    Goes K xs ws c 74 (app (k0_part9 (F := F)) c v3 v20 v28 h) Q := by
  rw [k0_part9_eq_skeleton]
  unfold app k0_part9_skel
  simp -zeta -proj only [semSignalWord, semSignalHereWord, semWaitWord, Prog.lift, Prog.bind_op, Prog.bind_ret, Prog.pure_eq_ret, Prog.bind_assoc]
  refine do_snd 48 (by decide +kernel) (ha.at 74) ?_
  refine do_gem 8 (off := fun c => k0_off8 c 4294967295#32) (by decide +kernel) (ha.at 75) ?_
  exact St_ret (hk _)

/-- The landing of copy 40, the landing of copy 47. -/
theorem part10 {v2 : BitVec 32} {v3 : BitVec 32} {v20 : BitVec 32} {Q : (BitVec 32) → sProp 𝕄} (ha : AllOn c 77 80) (hk : ∀ r, Ends K xs ws c 79 Q r) :
    Goes K xs ws c 77 (app (k0_part10 (F := F)) v2 v3 v20) Q := by
  rw [k0_part10_eq_skeleton]
  unfold app k0_part10_skel
  simp -zeta -proj only [semSignalWord, semSignalHereWord, semWaitWord, Prog.lift, Prog.bind_op, Prog.bind_ret, Prog.pure_eq_ret, Prog.bind_assoc]
  refine do_rcv 40 (ha.at 77) ?_
  refine do_rcv 47 (ha.at 78) ?_
  exact St_ret (hk _)

/-- The landing of copy 22, copy 45 out. -/
theorem part11 {v2 : BitVec 32} {v24 : BitVec 32} {h : k0_cond53 c = 1#1} {Q : (PUnit) → sProp 𝕄} (ha : AllOn c 94 102) (hk : ∀ r, Ends K xs ws c 96 Q r) :
    Goes K xs ws c 94 (app (k0_part11 (F := F)) c v2 v24 h) Q := by
  rw [k0_part11_eq_skeleton]
  unfold app k0_part11_skel
  simp -zeta -proj only [semSignalWord, semSignalHereWord, semWaitWord, Prog.lift, Prog.bind_op, Prog.bind_ret, Prog.pure_eq_ret, Prog.bind_assoc]
  refine do_rcv 22 (ha.at 94) ?_
  refine do_snd 45 (by decide +kernel) (ha.at 95) ?_
  exact St_ret (hk _)

/-- The landing of copy 36, the landing of copy 23, the landing of copy 37. -/
theorem part12 {v2 : BitVec 32} {Q : (PUnit) → sProp 𝕄} (ha : AllOn c 94 102) (hk : ∀ r, Ends K xs ws c 99 Q r) :
    Goes K xs ws c 96 (app (k0_part12 (F := F)) v2) Q := by
  rw [k0_part12_eq_skeleton]
  unfold app k0_part12_skel
  simp -zeta -proj only [semSignalWord, semSignalHereWord, semWaitWord, Prog.lift, Prog.bind_op, Prog.bind_ret, Prog.pure_eq_ret, Prog.bind_assoc]
  refine do_rcv 36 (ha.at 96) ?_
  refine do_rcv 23 (ha.at 97) ?_
  refine do_rcv 37 (ha.at 98) ?_
  exact St_ret (hk _)

/-- Copy 52 out, the product of slot 12. -/
theorem part13 {v3 : BitVec 32} {v20 : BitVec 32} {v28 : BitVec 32} {h : k0_cond53 c = 1#1} {Q : (Σ' (v715 : BitVec 32), BitVec 32) → sProp 𝕄} (ha : AllOn c 94 102) (hk : ∀ r, Ends K xs ws c 101 Q r) :
    Goes K xs ws c 99 (app (k0_part13 (F := F)) c v3 v20 v28 h) Q := by
  rw [k0_part13_eq_skeleton]
  unfold app k0_part13_skel
  simp -zeta -proj only [semSignalWord, semSignalHereWord, semWaitWord, Prog.lift, Prog.bind_op, Prog.bind_ret, Prog.pure_eq_ret, Prog.bind_assoc]
  refine do_snd 52 (by decide +kernel) (ha.at 99) ?_
  refine do_gem 12 (off := fun c => k0_off12 c 4294967295#32) (by decide +kernel) (ha.at 100) ?_
  exact St_ret (hk _)

/-- The landing of copy 16, copy 42 out. -/
theorem part14 {v2 : BitVec 32} {v24 : BitVec 32} {h : k0_cond54 c = 1#1} {Q : (PUnit) → sProp 𝕄} (ha : AllOn c 102 110) (hk : ∀ r, Ends K xs ws c 104 Q r) :
    Goes K xs ws c 102 (app (k0_part14 (F := F)) c v2 v24 h) Q := by
  rw [k0_part14_eq_skeleton]
  unfold app k0_part14_skel
  simp -zeta -proj only [semSignalWord, semSignalHereWord, semWaitWord, Prog.lift, Prog.bind_op, Prog.bind_ret, Prog.pure_eq_ret, Prog.bind_assoc]
  refine do_rcv 16 (ha.at 102) ?_
  refine do_snd 42 (by decide +kernel) (ha.at 103) ?_
  exact St_ret (hk _)

/-- The landing of copy 30, the landing of copy 17, the landing of copy 31. -/
theorem part15 {v2 : BitVec 32} {Q : (PUnit) → sProp 𝕄} (ha : AllOn c 102 110) (hk : ∀ r, Ends K xs ws c 107 Q r) :
    Goes K xs ws c 104 (app (k0_part15 (F := F)) v2) Q := by
  rw [k0_part15_eq_skeleton]
  unfold app k0_part15_skel
  simp -zeta -proj only [semSignalWord, semSignalHereWord, semWaitWord, Prog.lift, Prog.bind_op, Prog.bind_ret, Prog.pure_eq_ret, Prog.bind_assoc]
  refine do_rcv 30 (ha.at 104) ?_
  refine do_rcv 17 (ha.at 105) ?_
  refine do_rcv 31 (ha.at 106) ?_
  exact St_ret (hk _)

/-- Copy 49 out, the product of slot 9. -/
theorem part16 {v3 : BitVec 32} {v20 : BitVec 32} {v28 : BitVec 32} {h : k0_cond54 c = 1#1} {Q : (Σ' (v715 : BitVec 32), BitVec 32) → sProp 𝕄} (ha : AllOn c 102 110) (hk : ∀ r, Ends K xs ws c 109 Q r) :
    Goes K xs ws c 107 (app (k0_part16 (F := F)) c v3 v20 v28 h) Q := by
  rw [k0_part16_eq_skeleton]
  unfold app k0_part16_skel
  simp -zeta -proj only [semSignalWord, semSignalHereWord, semWaitWord, Prog.lift, Prog.bind_op, Prog.bind_ret, Prog.pure_eq_ret, Prog.bind_assoc]
  refine do_snd 49 (by decide +kernel) (ha.at 107) ?_
  refine do_gem 9 (off := fun c => k0_off13 c 4294967295#32) (by decide +kernel) (ha.at 108) ?_
  exact St_ret (hk _)

/-- The landing of copy 44, the landing of copy 51. -/
theorem part17 {v2 : BitVec 32} {v3 : BitVec 32} {v20 : BitVec 32} {Q : (BitVec 32) → sProp 𝕄} (ha : AllOn c 110 113) (hk : ∀ r, Ends K xs ws c 112 Q r) :
    Goes K xs ws c 110 (app (k0_part17 (F := F)) v2 v3 v20) Q := by
  rw [k0_part17_eq_skeleton]
  unfold app k0_part17_skel
  simp -zeta -proj only [semSignalWord, semSignalHereWord, semWaitWord, Prog.lift, Prog.bind_op, Prog.bind_ret, Prog.pure_eq_ret, Prog.bind_assoc]
  refine do_rcv 44 (ha.at 110) ?_
  refine do_rcv 51 (ha.at 111) ?_
  exact St_ret (hk _)

/-- The landing of copy 41, the landing of copy 48. -/
theorem part18 {v2 : BitVec 32} {v3 : BitVec 32} {v20 : BitVec 32} {Q : (BitVec 32) → sProp 𝕄} (ha : AllOn c 113 116) (hk : ∀ r, Ends K xs ws c 115 Q r) :
    Goes K xs ws c 113 (app (k0_part18 (F := F)) v2 v3 v20) Q := by
  rw [k0_part18_eq_skeleton]
  unfold app k0_part18_skel
  simp -zeta -proj only [semSignalWord, semSignalHereWord, semWaitWord, Prog.lift, Prog.bind_op, Prog.bind_ret, Prog.pure_eq_ret, Prog.bind_assoc]
  refine do_rcv 41 (ha.at 113) ?_
  refine do_rcv 48 (ha.at 114) ?_
  exact St_ret (hk _)

/-- The landing of copy 24, copy 46 out. -/
theorem part19 {v2 : BitVec 32} {v24 : BitVec 32} {h : k0_cond57 c = 1#1} {Q : (PUnit) → sProp 𝕄} (ha : AllOn c 116 124) (hk : ∀ r, Ends K xs ws c 118 Q r) :
    Goes K xs ws c 116 (app (k0_part19 (F := F)) c v2 v24 h) Q := by
  rw [k0_part19_eq_skeleton]
  unfold app k0_part19_skel
  simp -zeta -proj only [semSignalWord, semSignalHereWord, semWaitWord, Prog.lift, Prog.bind_op, Prog.bind_ret, Prog.pure_eq_ret, Prog.bind_assoc]
  refine do_rcv 24 (ha.at 116) ?_
  refine do_snd 46 (by decide +kernel) (ha.at 117) ?_
  exact St_ret (hk _)

/-- The landing of copy 38, the landing of copy 25, the landing of copy 39. -/
theorem part20 {v2 : BitVec 32} {Q : (PUnit) → sProp 𝕄} (ha : AllOn c 116 124) (hk : ∀ r, Ends K xs ws c 121 Q r) :
    Goes K xs ws c 118 (app (k0_part20 (F := F)) v2) Q := by
  rw [k0_part20_eq_skeleton]
  unfold app k0_part20_skel
  simp -zeta -proj only [semSignalWord, semSignalHereWord, semWaitWord, Prog.lift, Prog.bind_op, Prog.bind_ret, Prog.pure_eq_ret, Prog.bind_assoc]
  refine do_rcv 38 (ha.at 118) ?_
  refine do_rcv 25 (ha.at 119) ?_
  refine do_rcv 39 (ha.at 120) ?_
  exact St_ret (hk _)

/-- Copy 53 out, the product of slot 13. -/
theorem part21 {v3 : BitVec 32} {v20 : BitVec 32} {v28 : BitVec 32} {h : k0_cond57 c = 1#1} {Q : (Σ' (v715 : BitVec 32), BitVec 32) → sProp 𝕄} (ha : AllOn c 116 124) (hk : ∀ r, Ends K xs ws c 123 Q r) :
    Goes K xs ws c 121 (app (k0_part21 (F := F)) c v3 v20 v28 h) Q := by
  rw [k0_part21_eq_skeleton]
  unfold app k0_part21_skel
  simp -zeta -proj only [semSignalWord, semSignalHereWord, semWaitWord, Prog.lift, Prog.bind_op, Prog.bind_ret, Prog.pure_eq_ret, Prog.bind_assoc]
  refine do_snd 53 (by decide +kernel) (ha.at 121) ?_
  refine do_gem 13 (off := fun c => k0_off16 c 4294967295#32) (by decide +kernel) (ha.at 122) ?_
  exact St_ret (hk _)

/-- The landing of copy 18, copy 43 out. -/
theorem part22 {v2 : BitVec 32} {v24 : BitVec 32} {h : k0_cond58 c = 1#1} {Q : (PUnit) → sProp 𝕄} (ha : AllOn c 124 132) (hk : ∀ r, Ends K xs ws c 126 Q r) :
    Goes K xs ws c 124 (app (k0_part22 (F := F)) c v2 v24 h) Q := by
  rw [k0_part22_eq_skeleton]
  unfold app k0_part22_skel
  simp -zeta -proj only [semSignalWord, semSignalHereWord, semWaitWord, Prog.lift, Prog.bind_op, Prog.bind_ret, Prog.pure_eq_ret, Prog.bind_assoc]
  refine do_rcv 18 (ha.at 124) ?_
  refine do_snd 43 (by decide +kernel) (ha.at 125) ?_
  exact St_ret (hk _)

/-- The landing of copy 32, the landing of copy 19, the landing of copy 33. -/
theorem part23 {v2 : BitVec 32} {Q : (PUnit) → sProp 𝕄} (ha : AllOn c 124 132) (hk : ∀ r, Ends K xs ws c 129 Q r) :
    Goes K xs ws c 126 (app (k0_part23 (F := F)) v2) Q := by
  rw [k0_part23_eq_skeleton]
  unfold app k0_part23_skel
  simp -zeta -proj only [semSignalWord, semSignalHereWord, semWaitWord, Prog.lift, Prog.bind_op, Prog.bind_ret, Prog.pure_eq_ret, Prog.bind_assoc]
  refine do_rcv 32 (ha.at 126) ?_
  refine do_rcv 19 (ha.at 127) ?_
  refine do_rcv 33 (ha.at 128) ?_
  exact St_ret (hk _)

/-- Copy 50 out, the product of slot 10. -/
theorem part24 {v3 : BitVec 32} {v20 : BitVec 32} {v28 : BitVec 32} {h : k0_cond58 c = 1#1} {Q : (Σ' (v715 : BitVec 32), BitVec 32) → sProp 𝕄} (ha : AllOn c 124 132) (hk : ∀ r, Ends K xs ws c 131 Q r) :
    Goes K xs ws c 129 (app (k0_part24 (F := F)) c v3 v20 v28 h) Q := by
  rw [k0_part24_eq_skeleton]
  unfold app k0_part24_skel
  simp -zeta -proj only [semSignalWord, semSignalHereWord, semWaitWord, Prog.lift, Prog.bind_op, Prog.bind_ret, Prog.pure_eq_ret, Prog.bind_assoc]
  refine do_snd 50 (by decide +kernel) (ha.at 129) ?_
  refine do_gem 10 (off := fun c => k0_off17 c 4294967295#32) (by decide +kernel) (ha.at 130) ?_
  exact St_ret (hk _)

/-- The landing of copy 45, the landing of copy 52. -/
theorem part25 {v2 : BitVec 32} {v3 : BitVec 32} {v20 : BitVec 32} {Q : (BitVec 32) → sProp 𝕄} (ha : AllOn c 132 135) (hk : ∀ r, Ends K xs ws c 134 Q r) :
    Goes K xs ws c 132 (app (k0_part25 (F := F)) v2 v3 v20) Q := by
  rw [k0_part25_eq_skeleton]
  unfold app k0_part25_skel
  simp -zeta -proj only [semSignalWord, semSignalHereWord, semWaitWord, Prog.lift, Prog.bind_op, Prog.bind_ret, Prog.pure_eq_ret, Prog.bind_assoc]
  refine do_rcv 45 (ha.at 132) ?_
  refine do_rcv 52 (ha.at 133) ?_
  exact St_ret (hk _)

/-- The landing of copy 42, the landing of copy 49. -/
theorem part26 {v2 : BitVec 32} {v3 : BitVec 32} {v20 : BitVec 32} {Q : (BitVec 32) → sProp 𝕄} (ha : AllOn c 135 138) (hk : ∀ r, Ends K xs ws c 137 Q r) :
    Goes K xs ws c 135 (app (k0_part26 (F := F)) v2 v3 v20) Q := by
  rw [k0_part26_eq_skeleton]
  unfold app k0_part26_skel
  simp -zeta -proj only [semSignalWord, semSignalHereWord, semWaitWord, Prog.lift, Prog.bind_op, Prog.bind_ret, Prog.pure_eq_ret, Prog.bind_assoc]
  refine do_rcv 42 (ha.at 135) ?_
  refine do_rcv 49 (ha.at 136) ?_
  exact St_ret (hk _)

/-- The landing of copy 46, the landing of copy 53. -/
theorem part27 {v2 : BitVec 32} {v3 : BitVec 32} {v20 : BitVec 32} {Q : (BitVec 32) → sProp 𝕄} (ha : AllOn c 138 141) (hk : ∀ r, Ends K xs ws c 140 Q r) :
    Goes K xs ws c 138 (app (k0_part27 (F := F)) v2 v3 v20) Q := by
  rw [k0_part27_eq_skeleton]
  unfold app k0_part27_skel
  simp -zeta -proj only [semSignalWord, semSignalHereWord, semWaitWord, Prog.lift, Prog.bind_op, Prog.bind_ret, Prog.pure_eq_ret, Prog.bind_assoc]
  refine do_rcv 46 (ha.at 138) ?_
  refine do_rcv 53 (ha.at 139) ?_
  exact St_ret (hk _)

/-- The landing of copy 43, the landing of copy 50. -/
theorem part28 {v2 : BitVec 32} {v3 : BitVec 32} {v20 : BitVec 32} {Q : (BitVec 32) → sProp 𝕄} (ha : AllOn c 141 144) (hk : ∀ r, Ends K xs ws c 143 Q r) :
    Goes K xs ws c 141 (app (k0_part28 (F := F)) v2 v3 v20) Q := by
  rw [k0_part28_eq_skeleton]
  unfold app k0_part28_skel
  simp -zeta -proj only [semSignalWord, semSignalHereWord, semWaitWord, Prog.lift, Prog.bind_op, Prog.bind_ret, Prog.pure_eq_ret, Prog.bind_assoc]
  refine do_rcv 43 (ha.at 141) ?_
  refine do_rcv 50 (ha.at 142) ?_
  exact St_ret (hk _)

/-- The departure of copy 12, the departure of copy 26, the departure of copy 13. -/
theorem part29 {Q : (PUnit) → sProp 𝕄} (ha : AllOn c 156 162) (hk : ∀ r, Ends K xs ws c 159 Q r) :
    Goes K xs ws c 156 (app (k0_part29 (F := F))) Q := by
  rw [k0_part29_eq_skeleton]
  unfold app k0_part29_skel
  simp -zeta -proj only [semSignalWord, semSignalHereWord, semWaitWord, Prog.lift, Prog.bind_op, Prog.bind_ret, Prog.pure_eq_ret, Prog.bind_assoc]
  refine do_wsn 12 (ha.at 156) ?_
  refine do_wsn 26 (ha.at 157) ?_
  refine do_wsn 13 (ha.at 158) ?_
  exact St_ret (hk _)

/-- The departure of copy 27, the departure of copy 40, the departure of copy 47. -/
theorem part30 {Q : (PUnit) → sProp 𝕄} (ha : AllOn c 156 162) (hk : ∀ r, Ends K xs ws c 162 Q r) :
    Goes K xs ws c 159 (app (k0_part30 (F := F))) Q := by
  rw [k0_part30_eq_skeleton]
  unfold app k0_part30_skel
  simp -zeta -proj only [semSignalWord, semSignalHereWord, semWaitWord, Prog.lift, Prog.bind_op, Prog.bind_ret, Prog.pure_eq_ret, Prog.bind_assoc]
  refine do_wsn 27 (ha.at 159) ?_
  refine do_wsn 40 (ha.at 160) ?_
  refine do_wsn 47 (ha.at 161) ?_
  exact St_ret (hk _)

/-- The departure of copy 14, the departure of copy 28, the departure of copy 15. -/
theorem part31 {Q : (PUnit) → sProp 𝕄} (ha : AllOn c 162 168) (hk : ∀ r, Ends K xs ws c 165 Q r) :
    Goes K xs ws c 162 (app (k0_part31 (F := F))) Q := by
  rw [k0_part31_eq_skeleton]
  unfold app k0_part31_skel
  simp -zeta -proj only [semSignalWord, semSignalHereWord, semWaitWord, Prog.lift, Prog.bind_op, Prog.bind_ret, Prog.pure_eq_ret, Prog.bind_assoc]
  refine do_wsn 14 (ha.at 162) ?_
  refine do_wsn 28 (ha.at 163) ?_
  refine do_wsn 15 (ha.at 164) ?_
  exact St_ret (hk _)

/-- The departure of copy 29, the departure of copy 41, the departure of copy 48. -/
theorem part32 {Q : (PUnit) → sProp 𝕄} (ha : AllOn c 162 168) (hk : ∀ r, Ends K xs ws c 168 Q r) :
    Goes K xs ws c 165 (app (k0_part32 (F := F))) Q := by
  rw [k0_part32_eq_skeleton]
  unfold app k0_part32_skel
  simp -zeta -proj only [semSignalWord, semSignalHereWord, semWaitWord, Prog.lift, Prog.bind_op, Prog.bind_ret, Prog.pure_eq_ret, Prog.bind_assoc]
  refine do_wsn 29 (ha.at 165) ?_
  refine do_wsn 41 (ha.at 166) ?_
  refine do_wsn 48 (ha.at 167) ?_
  exact St_ret (hk _)

/-- The departure of copy 16, the departure of copy 30, the departure of copy 17. -/
theorem part33 {Q : (PUnit) → sProp 𝕄} (ha : AllOn c 168 174) (hk : ∀ r, Ends K xs ws c 171 Q r) :
    Goes K xs ws c 168 (app (k0_part33 (F := F))) Q := by
  rw [k0_part33_eq_skeleton]
  unfold app k0_part33_skel
  simp -zeta -proj only [semSignalWord, semSignalHereWord, semWaitWord, Prog.lift, Prog.bind_op, Prog.bind_ret, Prog.pure_eq_ret, Prog.bind_assoc]
  refine do_wsn 16 (ha.at 168) ?_
  refine do_wsn 30 (ha.at 169) ?_
  refine do_wsn 17 (ha.at 170) ?_
  exact St_ret (hk _)

/-- The departure of copy 31, the departure of copy 42, the departure of copy 49. -/
theorem part34 {Q : (PUnit) → sProp 𝕄} (ha : AllOn c 168 174) (hk : ∀ r, Ends K xs ws c 174 Q r) :
    Goes K xs ws c 171 (app (k0_part34 (F := F))) Q := by
  rw [k0_part34_eq_skeleton]
  unfold app k0_part34_skel
  simp -zeta -proj only [semSignalWord, semSignalHereWord, semWaitWord, Prog.lift, Prog.bind_op, Prog.bind_ret, Prog.pure_eq_ret, Prog.bind_assoc]
  refine do_wsn 31 (ha.at 171) ?_
  refine do_wsn 42 (ha.at 172) ?_
  refine do_wsn 49 (ha.at 173) ?_
  exact St_ret (hk _)

/-- The departure of copy 18, the departure of copy 32, the departure of copy 19. -/
theorem part35 {Q : (PUnit) → sProp 𝕄} (ha : AllOn c 174 180) (hk : ∀ r, Ends K xs ws c 177 Q r) :
    Goes K xs ws c 174 (app (k0_part35 (F := F))) Q := by
  rw [k0_part35_eq_skeleton]
  unfold app k0_part35_skel
  simp -zeta -proj only [semSignalWord, semSignalHereWord, semWaitWord, Prog.lift, Prog.bind_op, Prog.bind_ret, Prog.pure_eq_ret, Prog.bind_assoc]
  refine do_wsn 18 (ha.at 174) ?_
  refine do_wsn 32 (ha.at 175) ?_
  refine do_wsn 19 (ha.at 176) ?_
  exact St_ret (hk _)

/-- The departure of copy 33, the departure of copy 43, the departure of copy 50. -/
theorem part36 {Q : (PUnit) → sProp 𝕄} (ha : AllOn c 174 180) (hk : ∀ r, Ends K xs ws c 180 Q r) :
    Goes K xs ws c 177 (app (k0_part36 (F := F))) Q := by
  rw [k0_part36_eq_skeleton]
  unfold app k0_part36_skel
  simp -zeta -proj only [semSignalWord, semSignalHereWord, semWaitWord, Prog.lift, Prog.bind_op, Prog.bind_ret, Prog.pure_eq_ret, Prog.bind_assoc]
  refine do_wsn 33 (ha.at 177) ?_
  refine do_wsn 43 (ha.at 178) ?_
  refine do_wsn 50 (ha.at 179) ?_
  exact St_ret (hk _)

/-- The departure of copy 20, the departure of copy 34, the departure of copy 21. -/
theorem part37 {Q : (PUnit) → sProp 𝕄} (ha : AllOn c 180 186) (hk : ∀ r, Ends K xs ws c 183 Q r) :
    Goes K xs ws c 180 (app (k0_part37 (F := F))) Q := by
  rw [k0_part37_eq_skeleton]
  unfold app k0_part37_skel
  simp -zeta -proj only [semSignalWord, semSignalHereWord, semWaitWord, Prog.lift, Prog.bind_op, Prog.bind_ret, Prog.pure_eq_ret, Prog.bind_assoc]
  refine do_wsn 20 (ha.at 180) ?_
  refine do_wsn 34 (ha.at 181) ?_
  refine do_wsn 21 (ha.at 182) ?_
  exact St_ret (hk _)

/-- The departure of copy 35, the departure of copy 44, the departure of copy 51. -/
theorem part38 {Q : (PUnit) → sProp 𝕄} (ha : AllOn c 180 186) (hk : ∀ r, Ends K xs ws c 186 Q r) :
    Goes K xs ws c 183 (app (k0_part38 (F := F))) Q := by
  rw [k0_part38_eq_skeleton]
  unfold app k0_part38_skel
  simp -zeta -proj only [semSignalWord, semSignalHereWord, semWaitWord, Prog.lift, Prog.bind_op, Prog.bind_ret, Prog.pure_eq_ret, Prog.bind_assoc]
  refine do_wsn 35 (ha.at 183) ?_
  refine do_wsn 44 (ha.at 184) ?_
  refine do_wsn 51 (ha.at 185) ?_
  exact St_ret (hk _)

/-- The departure of copy 22, the departure of copy 36, the departure of copy 23. -/
theorem part39 {Q : (PUnit) → sProp 𝕄} (ha : AllOn c 186 192) (hk : ∀ r, Ends K xs ws c 189 Q r) :
    Goes K xs ws c 186 (app (k0_part39 (F := F))) Q := by
  rw [k0_part39_eq_skeleton]
  unfold app k0_part39_skel
  simp -zeta -proj only [semSignalWord, semSignalHereWord, semWaitWord, Prog.lift, Prog.bind_op, Prog.bind_ret, Prog.pure_eq_ret, Prog.bind_assoc]
  refine do_wsn 22 (ha.at 186) ?_
  refine do_wsn 36 (ha.at 187) ?_
  refine do_wsn 23 (ha.at 188) ?_
  exact St_ret (hk _)

/-- The departure of copy 37, the departure of copy 45, the departure of copy 52. -/
theorem part40 {Q : (PUnit) → sProp 𝕄} (ha : AllOn c 186 192) (hk : ∀ r, Ends K xs ws c 192 Q r) :
    Goes K xs ws c 189 (app (k0_part40 (F := F))) Q := by
  rw [k0_part40_eq_skeleton]
  unfold app k0_part40_skel
  simp -zeta -proj only [semSignalWord, semSignalHereWord, semWaitWord, Prog.lift, Prog.bind_op, Prog.bind_ret, Prog.pure_eq_ret, Prog.bind_assoc]
  refine do_wsn 37 (ha.at 189) ?_
  refine do_wsn 45 (ha.at 190) ?_
  refine do_wsn 52 (ha.at 191) ?_
  exact St_ret (hk _)

/-- The departure of copy 24, the departure of copy 38, the departure of copy 25. -/
theorem part41 {Q : (PUnit) → sProp 𝕄} (ha : AllOn c 192 198) (hk : ∀ r, Ends K xs ws c 195 Q r) :
    Goes K xs ws c 192 (app (k0_part41 (F := F))) Q := by
  rw [k0_part41_eq_skeleton]
  unfold app k0_part41_skel
  simp -zeta -proj only [semSignalWord, semSignalHereWord, semWaitWord, Prog.lift, Prog.bind_op, Prog.bind_ret, Prog.pure_eq_ret, Prog.bind_assoc]
  refine do_wsn 24 (ha.at 192) ?_
  refine do_wsn 38 (ha.at 193) ?_
  refine do_wsn 25 (ha.at 194) ?_
  exact St_ret (hk _)

/-- The departure of copy 39, the departure of copy 46, the departure of copy 53. -/
theorem part42 {Q : (PUnit) → sProp 𝕄} (ha : AllOn c 192 198) (hk : ∀ r, Ends K xs ws c 198 Q r) :
    Goes K xs ws c 195 (app (k0_part42 (F := F))) Q := by
  rw [k0_part42_eq_skeleton]
  unfold app k0_part42_skel
  simp -zeta -proj only [semSignalWord, semSignalHereWord, semWaitWord, Prog.lift, Prog.bind_op, Prog.bind_ret, Prog.pure_eq_ret, Prog.bind_assoc]
  refine do_wsn 39 (ha.at 195) ?_
  refine do_wsn 46 (ha.at 196) ?_
  refine do_wsn 53 (ha.at 197) ?_
  exact St_ret (hk _)

end Cert.KernelIdeal.Plan

end
-- ==== Proof.Outer.lean ====
/-
# 01_k — the whole body: every event in its order
-/
module

public import proofs.«01_k».proof.Proof.Inner

@[expose] public section

set_option maxRecDepth 65536

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {xs : Dev nD → (cc0_stg0_0 : Ref sig .tc).ty.Contents (Elt F)} {ws : Dev nD → (cc0_stg1_0 : Ref sig .tc).ty.Contents (Elt F)}
variable {K : Dev nD × Cx → ℕ} {c : Dev nD}

/-- Whether the chip three rows down exists, as the program works it out ahead of its use. -/
abbrev minus3 (c : Dev nD) : BitVec 1 :=
  Scalar.cmpi .ne (Scalar.extui (Scalar.andi (Scalar.cmpi .sge (Scalar.addi (gW c) 4294967293#32) 0#32) (Scalar.cmpi .sle (Scalar.addi (gW c) 4294967293#32) 3#32))) 0#32

/-- Whether the last copy upwards left, likewise. -/
abbrev back2 (c : Dev nD) : BitVec 1 :=
  Scalar.andi (Scalar.cmpi .slt (gW c) 3#32) (Scalar.andi (Scalar.cmpi .sge (Scalar.addi (gW c) 4294967294#32) 0#32) (Scalar.cmpi .sle (Scalar.addi (gW c) 4294967294#32) 3#32))

/-- Events 9 to 13. -/
theorem part45 {d0 : Dev nD} {v20 : BitVec 32} {v24 : BitVec 32} {v28 : BitVec 32} {v29 : BitVec 32} {v30 : BitVec 32} {v62 : BitVec 1} {c0_i32_39 : BitVec 32} {Q : (BitVec 32) → sProp 𝕄} (hd : d0 = c) (h20 : v20 = gW c) (hk : ∀ r, Ends K xs ws c 14 Q r) :
    Goes K xs ws c 9 (app (k0_part45 (F := F)) d0 v20 v24 v28 v29 v30 v62 c0_i32_39) Q := by
  obtain rfl := hd.symm
  subst h20
  rw [k0_part45_eq_skeleton]
  unfold app k0_part45_skel
  simp -zeta -proj only [semSignalWord, semSignalHereWord, semWaitWord, Prog.lift, Prog.bind_op, Prog.bind_ret, Prog.pure_eq_ret, Prog.bind_assoc]
  refine seq_when 10 ?_ fun h ha hE => by exact do_snd 6 (by decide +kernel) (ha.at 9) hE
  refine seq_when 12 ?_ fun h ha hE => by exact do_snd 12 (by decide +kernel) (ha.at 10) <| do_snd 26 (by decide +kernel) (ha.at 11) hE
  refine seq_when 13 ?_ fun h ha hE => by exact do_snd 1 (by decide +kernel) (ha.at 12) hE
  refine seq_when 14 ?_ fun h ha hE => by exact do_snd 7 (by decide +kernel) (ha.at 13) hE
  exact St_ret (hk _)

/-- Events 14 to 18. -/
theorem part46 {d0 : Dev nD} {v2 : BitVec 32} {v20 : BitVec 32} {v24 : BitVec 32} {v28 : BitVec 32} {v29 : BitVec 32} {v96 : BitVec 32} {Q : (Σ' (v127 : BitVec 32), BitVec 32) → sProp 𝕄} (hd : d0 = c) (h20 : v20 = gW c) (hk : ∀ r, Ends K xs ws c 19 Q r) :
    Goes K xs ws c 14 (app (k0_part46 (F := F)) d0 v2 v20 v24 v28 v29 v96) Q := by
  obtain rfl := hd.symm
  subst h20
  rw [k0_part46_eq_skeleton]
  unfold app k0_part46_skel
  simp -zeta -proj only [semSignalWord, semSignalHereWord, semWaitWord, Prog.lift, Prog.bind_op, Prog.bind_ret, Prog.pure_eq_ret, Prog.bind_assoc]
  refine seq_when 16 ?_ fun h ha hE => by exact do_snd 13 (by decide +kernel) (ha.at 14) <| do_snd 27 (by decide +kernel) (ha.at 15) hE
  refine do_gem 0 (by decide +kernel) (by clear hk; revert c; decide +kernel) ?_
  refine seq_word 18 (by clear hk; revert c; decide +kernel) ?_ fun h ha hE => by exact do_rcv 0 (ha.at 17) hE
  refine seq_when 19 ?_ fun h ha hE => by exact do_snd 2 (by decide +kernel) (ha.at 18) hE
  exact St_ret (hk _)

/-- Events 19 to 24. -/
theorem part47 {d0 : Dev nD} {v2 : BitVec 32} {v20 : BitVec 32} {v24 : BitVec 32} {v28 : BitVec 32} {v30 : BitVec 32} {v127 : BitVec 32} {c0_i32_83 : BitVec 32} {Q : (Σ' (v158 : BitVec 1), BitVec 1) → sProp 𝕄} (hd : d0 = c) (h20 : v20 = gW c) (hk : ∀ r, r.1 = Scalar.cmpi .sge (Scalar.addi (gW c) 4294967295#32) 0#32 → r.2 = Scalar.cmpi .sle (Scalar.addi (gW c) 4294967295#32) 3#32 → Ends K xs ws c 25 Q r) :
    Goes K xs ws c 19 (app (k0_part47 (F := F)) d0 v2 v20 v24 v28 v30 v127 c0_i32_83) Q := by
  obtain rfl := hd.symm
  subst h20
  rw [k0_part47_eq_skeleton]
  unfold app k0_part47_skel
  simp -zeta -proj only [semSignalWord, semSignalHereWord, semWaitWord, Prog.lift, Prog.bind_op, Prog.bind_ret, Prog.pure_eq_ret, Prog.bind_assoc]
  refine seq_when 21 ?_ fun h ha hE => by exact do_snd 20 (by decide +kernel) (ha.at 19) <| do_snd 34 (by decide +kernel) (ha.at 20) hE
  refine seq_word 22 (by clear hk; revert c; decide +kernel) ?_ fun h ha hE => by exact do_rcv 6 (ha.at 21) hE
  refine seq_when 23 ?_ fun h ha hE => by exact do_snd 8 (by decide +kernel) (ha.at 22) hE
  refine seq_when 25 ?_ fun h ha hE => by exact do_snd 14 (by decide +kernel) (ha.at 23) <| do_snd 28 (by decide +kernel) (ha.at 24) hE
  exact St_ret (hk _ (by dsimp only) (by dsimp only))

/-- Events 25 to 29. -/
theorem part48 {d0 : Dev nD} {v2 : BitVec 32} {v20 : BitVec 32} {v24 : BitVec 32} {v28 : BitVec 32} {v29 : BitVec 32} {v158 : BitVec 1} {v160 : BitVec 1} {Q : (BitVec 32) → sProp 𝕄} (hd : d0 = c) (h20 : v20 = gW c) (h0 : v158 = Scalar.cmpi .sge (Scalar.addi (gW c) 4294967295#32) 0#32) (h1 : v160 = Scalar.cmpi .sle (Scalar.addi (gW c) 4294967295#32) 3#32) (hk : ∀ r, Ends K xs ws c 30 Q r) :
    Goes K xs ws c 25 (app (k0_part48 (F := F)) d0 v2 v20 v24 v28 v29 v158 v160) Q := by
  rw [h1]
  clear h1
  rw [h0]
  clear h0
  obtain rfl := hd.symm
  subst h20
  rw [k0_part48_eq_skeleton]
  unfold app k0_part48_skel
  simp -zeta -proj only [semSignalWord, semSignalHereWord, semWaitWord, Prog.lift, Prog.bind_op, Prog.bind_ret, Prog.pure_eq_ret, Prog.bind_assoc]
  refine seq_word 26 (by clear hk; revert c; decide +kernel) ?_ fun h ha hE => by exact do_rcv 1 (ha.at 25) hE
  refine seq_when 27 ?_ fun h ha hE => by exact do_snd 3 (by decide +kernel) (ha.at 26) hE
  refine seq_when 29 ?_ fun h ha hE => by exact do_snd 21 (by decide +kernel) (ha.at 27) <| do_snd 35 (by decide +kernel) (ha.at 28) hE
  refine seq_word 30 (by clear hk; revert c; decide +kernel) ?_ fun h ha hE => by exact do_rcv 7 (ha.at 29) hE
  exact St_ret (hk _)

/-- Events 30 to 42. -/
theorem part49 {d0 : Dev nD} {v2 : BitVec 32} {v3 : BitVec 32} {v20 : BitVec 32} {v24 : BitVec 32} {v28 : BitVec 32} {v30 : BitVec 32} {v194 : BitVec 32} {Q : (Σ' (v225 : BitVec 1), BitVec 32) → sProp 𝕄} (hd : d0 = c) (h20 : v20 = gW c) (hk : ∀ r, r.1 = Scalar.cmpi .sge (Scalar.addi (gW c) 4294967294#32) 0#32 → r.2 = 4294967294#32 → Ends K xs ws c 43 Q r) :
    Goes K xs ws c 30 (app (k0_part49 (F := F)) d0 v2 v3 v20 v24 v28 v30 v194) Q := by
  obtain rfl := hd.symm
  subst h20
  rw [k0_part49_eq_skeleton]
  unfold app k0_part49_skel
  simp -zeta -proj only [semSignalWord, semSignalHereWord, semWaitWord, Prog.lift, Prog.bind_op, Prog.bind_ret, Prog.pure_eq_ret, Prog.bind_assoc]
  refine seq_when 31 ?_ fun h ha hE => by exact do_snd 9 (by decide +kernel) (ha.at 30) hE
  refine seq_when 33 ?_ fun h ha hE => by exact do_snd 15 (by decide +kernel) (ha.at 31) <| do_snd 29 (by decide +kernel) (ha.at 32) hE
  refine seq_when 34 ?_ fun h ha hE => by exact do_gem 4 (by decide +kernel) (ha.at 33) hE
  refine seq_when 35 ?_ fun h ha hE => by exact do_gem 1 (by decide +kernel) (ha.at 34) hE
  refine seq_when 43 ?_ fun h ha hE => by
    exact seq_part (part1 ha fun _ => .of <| seq_part (part2 ha fun _ => .of <| seq_part (part3 ha fun _ => .of <| do_gem 14 (off := fun c => k0_off4 c 1#32) (by decide +kernel) (ha.at 42) hE)))
  exact St_ret (hk _ (by dsimp only) (by dsimp only))

/-- Events 43 to 47. -/
theorem part50 {d0 : Dev nD} {v2 : BitVec 32} {v20 : BitVec 32} {v24 : BitVec 32} {v28 : BitVec 32} {v29 : BitVec 32} {v225 : BitVec 1} {c_m2_i32_151 : BitVec 32} {Q : (Σ' (v254 : BitVec 1) (v256 : BitVec 1), BitVec 1) → sProp 𝕄} (hd : d0 = c) (h20 : v20 = gW c) (h0 : v225 = Scalar.cmpi .sge (Scalar.addi (gW c) 4294967294#32) 0#32) (h1 : c_m2_i32_151 = 4294967294#32) (hk : ∀ r, Ends K xs ws c 48 Q r) :
    Goes K xs ws c 43 (app (k0_part50 (F := F)) d0 v2 v20 v24 v28 v29 v225 c_m2_i32_151) Q := by
  rw [h1]
  clear h1
  rw [h0]
  clear h0
  obtain rfl := hd.symm
  subst h20
  rw [k0_part50_eq_skeleton]
  unfold app k0_part50_skel
  simp -zeta -proj only [semSignalWord, semSignalHereWord, semWaitWord, Prog.lift, Prog.bind_op, Prog.bind_ret, Prog.pure_eq_ret, Prog.bind_assoc]
  refine seq_word 44 (by clear hk; revert c; decide +kernel) ?_ fun h ha hE => by exact do_rcv 2 (ha.at 43) hE
  refine seq_when 45 ?_ fun h ha hE => by exact do_snd 4 (by decide +kernel) (ha.at 44) hE
  refine seq_when 47 ?_ fun h ha hE => by exact do_snd 22 (by decide +kernel) (ha.at 45) <| do_snd 36 (by decide +kernel) (ha.at 46) hE
  refine seq_word 48 (by clear hk; revert c; decide +kernel) ?_ fun h ha hE => by exact do_rcv 8 (ha.at 47) hE
  exact St_ret (hk _)

/-- Events 48 to 52. -/
theorem part51 {d0 : Dev nD} {v2 : BitVec 32} {v20 : BitVec 32} {v24 : BitVec 32} {v28 : BitVec 32} {v29 : BitVec 32} {v30 : BitVec 32} {v254 : BitVec 1} {v256 : BitVec 1} {v258 : BitVec 1} {Q : (PUnit) → sProp 𝕄} (hd : d0 = c) (h20 : v20 = gW c) (hk : ∀ r, Ends K xs ws c 53 Q r) :
    Goes K xs ws c 48 (app (k0_part51 (F := F)) d0 v2 v20 v24 v28 v29 v30 v254 v256 v258) Q := by
  obtain rfl := hd.symm
  subst h20
  rw [k0_part51_eq_skeleton]
  unfold app k0_part51_skel
  simp -zeta -proj only [semSignalWord, semSignalHereWord, semWaitWord, Prog.lift, Prog.bind_op, Prog.bind_ret, Prog.pure_eq_ret, Prog.bind_assoc]
  refine seq_when 49 ?_ fun h ha hE => by exact do_snd 10 (by decide +kernel) (ha.at 48) hE
  refine seq_when 51 ?_ fun h ha hE => by exact do_snd 16 (by decide +kernel) (ha.at 49) <| do_snd 30 (by decide +kernel) (ha.at 50) hE
  refine seq_word 52 (by clear hk; revert c; decide +kernel) ?_ fun h ha hE => by exact do_rcv 3 (ha.at 51) hE
  refine seq_when 53 ?_ fun h ha hE => by exact do_snd 5 (by decide +kernel) (ha.at 52) hE
  exact St_ret (hk _)

/-- Events 53 to 59. -/
theorem part52 {d0 : Dev nD} {v2 : BitVec 32} {v3 : BitVec 32} {v20 : BitVec 32} {v24 : BitVec 32} {v28 : BitVec 32} {v30 : BitVec 32} {Q : (BitVec 1) → sProp 𝕄} (hd : d0 = c) (h20 : v20 = gW c) (hk : ∀ r, Ends K xs ws c 60 Q r) :
    Goes K xs ws c 53 (app (k0_part52 (F := F)) d0 v2 v3 v20 v24 v28 v30) Q := by
  obtain rfl := hd.symm
  subst h20
  rw [k0_part52_eq_skeleton]
  unfold app k0_part52_skel
  simp -zeta -proj only [semSignalWord, semSignalHereWord, semWaitWord, Prog.lift, Prog.bind_op, Prog.bind_ret, Prog.pure_eq_ret, Prog.bind_assoc]
  refine seq_when 55 ?_ fun h ha hE => by exact do_snd 23 (by decide +kernel) (ha.at 53) <| do_snd 37 (by decide +kernel) (ha.at 54) hE
  refine seq_word 56 (by clear hk; revert c; decide +kernel) ?_ fun h ha hE => by exact do_rcv 9 (ha.at 55) hE
  refine seq_when 57 ?_ fun h ha hE => by exact do_snd 11 (by decide +kernel) (ha.at 56) hE
  refine seq_when 59 ?_ fun h ha hE => by exact do_snd 17 (by decide +kernel) (ha.at 57) <| do_snd 31 (by decide +kernel) (ha.at 58) hE
  refine seq_when 60 ?_ fun h ha hE => by exact do_gem 5 (by decide +kernel) (ha.at 59) hE
  exact St_ret (hk _)

/-- Events 60 to 79. -/
theorem part53 {d0 : Dev nD} {v2 : BitVec 32} {v3 : BitVec 32} {v20 : BitVec 32} {v24 : BitVec 32} {v28 : BitVec 32} {v324 : BitVec 1} {Q : (BitVec 1) → sProp 𝕄} (hd : d0 = c) (h20 : v20 = gW c) (hk : ∀ r, r = minus3 c → Ends K xs ws c 80 Q r) :
    Goes K xs ws c 60 (app (k0_part53 (F := F)) d0 v2 v3 v20 v24 v28 v324) Q := by
  obtain rfl := hd.symm
  subst h20
  rw [k0_part53_eq_skeleton]
  unfold app k0_part53_skel
  simp -zeta -proj only [semSignalWord, semSignalHereWord, semWaitWord, Prog.lift, Prog.bind_op, Prog.bind_ret, Prog.pure_eq_ret, Prog.bind_assoc]
  refine seq_when 61 ?_ fun h ha hE => by exact do_gem 2 (by decide +kernel) (ha.at 60) hE
  refine seq_when 69 ?_ fun h ha hE => by
    exact seq_part (part4 ha fun _ => .of <| seq_part (part5 ha fun _ => .of <| seq_part (part6 ha fun _ => .of <| do_gem 18 (off := fun c => k0_off7 c 1#32) (by decide +kernel) (ha.at 68) hE)))
  refine seq_when 77 ?_ fun h ha hE => by
    exact seq_part (part7 ha fun _ => .of <| seq_part (part8 ha fun _ => .of <| seq_part (part9 ha fun _ => .of <| do_gem 15 (off := fun c => k0_off8 c 1#32) (by decide +kernel) (ha.at 76) hE)))
  refine seq_when 80 ?_ fun h ha hE => by
    exact seq_part (part10 ha fun _ => .of <| do_gem 21 (by decide +kernel) (ha.at 79) hE)
  exact St_ret (hk _ rfl)

/-- Events 80 to 86. -/
theorem part54 {d0 : Dev nD} {v2 : BitVec 32} {v20 : BitVec 32} {v24 : BitVec 32} {v28 : BitVec 32} {v357 : BitVec 1} {Q : (Σ' (v387 : BitVec 1) (v388 : BitVec 32), BitVec 32) → sProp 𝕄} (hd : d0 = c) (h20 : v20 = gW c) (h0 : v357 = minus3 c) (hk : ∀ r, Ends K xs ws c 87 Q r) :
    Goes K xs ws c 80 (app (k0_part54 (F := F)) d0 v2 v20 v24 v28 v357) Q := by
  rw [h0]
  clear h0
  obtain rfl := hd.symm
  subst h20
  rw [k0_part54_eq_skeleton]
  unfold app k0_part54_skel
  simp -zeta -proj only [semSignalWord, semSignalHereWord, semWaitWord, Prog.lift, Prog.bind_op, Prog.bind_ret, Prog.pure_eq_ret, Prog.bind_assoc]
  refine seq_word 81 (by clear hk; revert c; decide +kernel) ?_ fun h ha hE => by exact do_rcv 4 (ha.at 80) hE
  refine seq_when 83 ?_ fun h ha hE => by exact do_snd 24 (by decide +kernel) (ha.at 81) <| do_snd 38 (by decide +kernel) (ha.at 82) hE
  refine seq_word 84 (by clear hk; revert c; decide +kernel) ?_ fun h ha hE => by exact do_rcv 10 (ha.at 83) hE
  refine seq_when 86 ?_ fun h ha hE => by exact do_snd 18 (by decide +kernel) (ha.at 84) <| do_snd 32 (by decide +kernel) (ha.at 85) hE
  refine seq_word 87 (by clear hk; revert c; decide +kernel) ?_ fun h ha hE => by exact do_rcv 5 (ha.at 86) hE
  exact St_ret (hk _)

/-- Events 87 to 93. -/
theorem part55 {d0 : Dev nD} {v2 : BitVec 32} {v3 : BitVec 32} {v20 : BitVec 32} {v24 : BitVec 32} {v28 : BitVec 32} {v387 : BitVec 1} {v388 : BitVec 32} {c3_i32_264 : BitVec 32} {Q : (BitVec 32) → sProp 𝕄} (hd : d0 = c) (h20 : v20 = gW c) (hk : ∀ r, Ends K xs ws c 94 Q r) :
    Goes K xs ws c 87 (app (k0_part55 (F := F)) d0 v2 v3 v20 v24 v28 v387 v388 c3_i32_264) Q := by
  obtain rfl := hd.symm
  subst h20
  rw [k0_part55_eq_skeleton]
  unfold app k0_part55_skel
  simp -zeta -proj only [semSignalWord, semSignalHereWord, semWaitWord, Prog.lift, Prog.bind_op, Prog.bind_ret, Prog.pure_eq_ret, Prog.bind_assoc]
  refine seq_when 89 ?_ fun h ha hE => by exact do_snd 25 (by decide +kernel) (ha.at 87) <| do_snd 39 (by decide +kernel) (ha.at 88) hE
  refine seq_word 90 (by clear hk; revert c; decide +kernel) ?_ fun h ha hE => by exact do_rcv 11 (ha.at 89) hE
  refine seq_when 92 ?_ fun h ha hE => by exact do_snd 19 (by decide +kernel) (ha.at 90) <| do_snd 33 (by decide +kernel) (ha.at 91) hE
  refine seq_when 93 ?_ fun h ha hE => by exact do_gem 6 (by decide +kernel) (ha.at 92) hE
  refine seq_when 94 ?_ fun h ha hE => by exact do_gem 3 (by decide +kernel) (ha.at 93) hE
  exact St_ret (hk _)

/-- Events 94 to 115. -/
theorem part56 {d0 : Dev nD} {v2 : BitVec 32} {v3 : BitVec 32} {v20 : BitVec 32} {v24 : BitVec 32} {v28 : BitVec 32} {v421 : BitVec 32} {Q : (BitVec 32) → sProp 𝕄} (hd : d0 = c) (h20 : v20 = gW c) (hk : ∀ r, Ends K xs ws c 116 Q r) :
    Goes K xs ws c 94 (app (k0_part56 (F := F)) d0 v2 v3 v20 v24 v28 v421) Q := by
  obtain rfl := hd.symm
  subst h20
  rw [k0_part56_eq_skeleton]
  unfold app k0_part56_skel
  simp -zeta -proj only [semSignalWord, semSignalHereWord, semWaitWord, Prog.lift, Prog.bind_op, Prog.bind_ret, Prog.pure_eq_ret, Prog.bind_assoc]
  refine seq_when 102 ?_ fun h ha hE => by
    exact seq_part (part11 ha fun _ => .of <| seq_part (part12 ha fun _ => .of <| seq_part (part13 ha fun _ => .of <| do_gem 19 (off := fun c => k0_off12 c 1#32) (by decide +kernel) (ha.at 101) hE)))
  refine seq_when 110 ?_ fun h ha hE => by
    exact seq_part (part14 ha fun _ => .of <| seq_part (part15 ha fun _ => .of <| seq_part (part16 ha fun _ => .of <| do_gem 16 (off := fun c => k0_off13 c 1#32) (by decide +kernel) (ha.at 109) hE)))
  refine seq_when 113 ?_ fun h ha hE => by
    exact seq_part (part17 ha fun _ => .of <| do_gem 25 (by decide +kernel) (ha.at 112) hE)
  refine seq_when 116 ?_ fun h ha hE => by
    exact seq_part (part18 ha fun _ => .of <| do_gem 22 (by decide +kernel) (ha.at 115) hE)
  exact St_ret (hk _)

/-- Events 116 to 140. -/
theorem part57 {d0 : Dev nD} {v2 : BitVec 32} {v3 : BitVec 32} {v20 : BitVec 32} {v24 : BitVec 32} {v28 : BitVec 32} {v454 : BitVec 32} {Q : (Σ' (v485 : BitVec 1), BitVec 32) → sProp 𝕄} (hd : d0 = c) (h20 : v20 = gW c) (hk : ∀ r, Ends K xs ws c 141 Q r) :
    Goes K xs ws c 116 (app (k0_part57 (F := F)) d0 v2 v3 v20 v24 v28 v454) Q := by
  obtain rfl := hd.symm
  subst h20
  rw [k0_part57_eq_skeleton]
  unfold app k0_part57_skel
  simp -zeta -proj only [semSignalWord, semSignalHereWord, semWaitWord, Prog.lift, Prog.bind_op, Prog.bind_ret, Prog.pure_eq_ret, Prog.bind_assoc]
  refine seq_when 124 ?_ fun h ha hE => by
    exact seq_part (part19 ha fun _ => .of <| seq_part (part20 ha fun _ => .of <| seq_part (part21 ha fun _ => .of <| do_gem 20 (off := fun c => k0_off16 c 1#32) (by decide +kernel) (ha.at 123) hE)))
  refine seq_when 132 ?_ fun h ha hE => by
    exact seq_part (part22 ha fun _ => .of <| seq_part (part23 ha fun _ => .of <| seq_part (part24 ha fun _ => .of <| do_gem 17 (off := fun c => k0_off17 c 1#32) (by decide +kernel) (ha.at 131) hE)))
  refine seq_when 135 ?_ fun h ha hE => by
    exact seq_part (part25 ha fun _ => .of <| do_gem 26 (by decide +kernel) (ha.at 134) hE)
  refine seq_when 138 ?_ fun h ha hE => by
    exact seq_part (part26 ha fun _ => .of <| do_gem 23 (by decide +kernel) (ha.at 137) hE)
  refine seq_when 141 ?_ fun h ha hE => by
    exact seq_part (part27 ha fun _ => .of <| do_gem 27 (by decide +kernel) (ha.at 140) hE)
  exact St_ret (hk _)

/-- Events 141 to 146. -/
theorem part58 {d0 : Dev nD} {v2 : BitVec 32} {v3 : BitVec 32} {v20 : BitVec 32} {v485 : BitVec 1} {c3_i32_333 : BitVec 32} {Q : (Σ' (v518 : BitVec 1), BitVec 32) → sProp 𝕄} (hd : d0 = c) (h20 : v20 = gW c) (hk : ∀ r, r.1 = Scalar.cmpi .sgt (gW c) 0#32 → r.2 = Scalar.addi (gW c) 0#32 → Ends K xs ws c 147 Q r) :
    Goes K xs ws c 141 (app (k0_part58 (F := F)) d0 v2 v3 v20 v485 c3_i32_333) Q := by
  obtain rfl := hd.symm
  subst h20
  rw [k0_part58_eq_skeleton]
  unfold app k0_part58_skel
  simp -zeta -proj only [semSignalWord, semSignalHereWord, semWaitWord, Prog.lift, Prog.bind_op, Prog.bind_ret, Prog.pure_eq_ret, Prog.bind_assoc]
  refine seq_when 144 ?_ fun h ha hE => by
    exact seq_part (part28 ha fun _ => .of <| do_gem 24 (by decide +kernel) (ha.at 143) hE)
  refine seq_word 145 (by clear hk; revert c; decide +kernel) ?_ fun h ha hE => by exact do_wsn 0 (ha.at 144) hE
  refine seq_word 146 (by clear hk; revert c; decide +kernel) ?_ fun h ha hE => by exact do_wsn 6 (ha.at 145) hE
  refine seq_word 147 (by clear hk; revert c; decide +kernel) ?_ fun h ha hE => by exact do_wsn 1 (ha.at 146) hE
  exact St_ret (hk _ (by dsimp only) (by dsimp only))

/-- Events 147 to 150. -/
theorem part59 {v20 : BitVec 32} {v518 : BitVec 1} {v519 : BitVec 32} {Q : (PUnit) → sProp 𝕄} (h20 : v20 = gW c) (h0 : v518 = Scalar.cmpi .sgt (gW c) 0#32) (h1 : v519 = Scalar.addi (gW c) 0#32) (hk : ∀ r, Ends K xs ws c 151 Q r) :
    Goes K xs ws c 147 (app (k0_part59 (F := F)) v20 v518 v519) Q := by
  rw [h1]
  clear h1
  rw [h0]
  clear h0
  subst h20
  rw [k0_part59_eq_skeleton]
  unfold app k0_part59_skel
  simp -zeta -proj only [semSignalWord, semSignalHereWord, semWaitWord, Prog.lift, Prog.bind_op, Prog.bind_ret, Prog.pure_eq_ret, Prog.bind_assoc]
  refine seq_word 148 (by clear hk; revert c; decide +kernel) ?_ fun h ha hE => by exact do_wsn 7 (ha.at 147) hE
  refine seq_word 149 (by clear hk; revert c; decide +kernel) ?_ fun h ha hE => by exact do_wsn 2 (ha.at 148) hE
  refine seq_word 150 (by clear hk; revert c; decide +kernel) ?_ fun h ha hE => by exact do_wsn 8 (ha.at 149) hE
  refine seq_word 151 (by clear hk; revert c; decide +kernel) ?_ fun h ha hE => by exact do_wsn 3 (ha.at 150) hE
  exact St_ret (hk _)

/-- Events 151 to 153. -/
theorem part60 {v20 : BitVec 32} {Q : (BitVec 1) → sProp 𝕄} (h20 : v20 = gW c) (hk : ∀ r, r = back2 c → Ends K xs ws c 154 Q r) :
    Goes K xs ws c 151 (app (k0_part60 (F := F)) v20) Q := by
  subst h20
  rw [k0_part60_eq_skeleton]
  unfold app k0_part60_skel
  simp -zeta -proj only [semSignalWord, semSignalHereWord, semWaitWord, Prog.lift, Prog.bind_op, Prog.bind_ret, Prog.pure_eq_ret, Prog.bind_assoc]
  refine seq_word 152 (by clear hk; revert c; decide +kernel) ?_ fun h ha hE => by exact do_wsn 9 (ha.at 151) hE
  refine seq_word 153 (by clear hk; revert c; decide +kernel) ?_ fun h ha hE => by exact do_wsn 4 (ha.at 152) hE
  refine seq_word 154 (by clear hk; revert c; decide +kernel) ?_ fun h ha hE => by exact do_wsn 10 (ha.at 153) hE
  exact St_ret (hk _ rfl)

/-- Events 154 to 173. -/
theorem part61 {v20 : BitVec 32} {v587 : BitVec 1} {Q : (BitVec 32) → sProp 𝕄} (h20 : v20 = gW c) (h0 : v587 = back2 c) (hk : ∀ r, r = 3#32 → Ends K xs ws c 174 Q r) :
    Goes K xs ws c 154 (app (k0_part61 (F := F)) v20 v587) Q := by
  rw [h0]
  clear h0
  subst h20
  rw [k0_part61_eq_skeleton]
  unfold app k0_part61_skel
  simp -zeta -proj only [semSignalWord, semSignalHereWord, semWaitWord, Prog.lift, Prog.bind_op, Prog.bind_ret, Prog.pure_eq_ret, Prog.bind_assoc]
  refine seq_word 155 (by clear hk; revert c; decide +kernel) ?_ fun h ha hE => by exact do_wsn 5 (ha.at 154) hE
  refine seq_word 156 (by clear hk; revert c; decide +kernel) ?_ fun h ha hE => by exact do_wsn 11 (ha.at 155) hE
  refine seq_word 162 (by clear hk; revert c; decide +kernel) ?_ fun h ha hE => by
    exact seq_part (part29 ha fun _ => .of <| seq_part (part30 ha fun _ => .of <| hE))
  refine seq_word 168 (by clear hk; revert c; decide +kernel) ?_ fun h ha hE => by
    exact seq_part (part31 ha fun _ => .of <| seq_part (part32 ha fun _ => .of <| hE))
  refine seq_word 174 (by clear hk; revert c; decide +kernel) ?_ fun h ha hE => by
    exact seq_part (part33 ha fun _ => .of <| seq_part (part34 ha fun _ => .of <| hE))
  exact St_ret (hk _ rfl)

end Cert.KernelIdeal.Plan

end
-- ==== Proof.Whole.lean ====
/-
# 01_k — the whole body
-/
module

public import proofs.«01_k».proof.Proof.Outer

@[expose] public section

set_option maxRecDepth 65536

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {xs : Dev nD → (cc0_stg0_0 : Ref sig .tc).ty.Contents (Elt F)} {ws : Dev nD → (cc0_stg1_0 : Ref sig .tc).ty.Contents (Elt F)}
variable {K : Dev nD × Cx → ℕ} {c : Dev nD}

/-- The first 192 events. -/
theorem part62 {Q : (Σ' (v20 : BitVec 32) (v641 : BitVec 32), BitVec 32) → sProp 𝕄}
    (hk : ∀ r, r.1 = gW c → r.2.1 = Scalar.addi (gW c) 4294967293#32 → r.2.2 = 0#32 → Ends K xs ws c 192 Q r) :
    Goes K xs ws c 0 (app (k0_part62 (F := F))) Q := by
  rw [k0_part62_eq_skeleton]
  unfold app k0_part62_skel
  simp -zeta -proj only [semSignalWord, semSignalHereWord, semWaitWord, Prog.lift, Prog.bind_op, Prog.bind_ret, Prog.pure_eq_ret, Prog.bind_assoc]
  have h35 := @part35 F _ xs ws K c
  have h36 := @part36 F _ xs ws K c
  have h37 := @part37 F _ xs ws K c
  have h38 := @part38 F _ xs ws K c
  have h39 := @part39 F _ xs ws K c
  have h40 := @part40 F _ xs ws K c
  have h43 := @part43 F _ xs ws K c
  have h44 := @part44 F _ xs ws K c
  have h45 := @part45 F _ xs ws K c
  have h46 := @part46 F _ xs ws K c
  have h47 := @part47 F _ xs ws K c
  have h48 := @part48 F _ xs ws K c
  have h49 := @part49 F _ xs ws K c
  have h50 := @part50 F _ xs ws K c
  have h51 := @part51 F _ xs ws K c
  have h52 := @part52 F _ xs ws K c
  have h53 := @part53 F _ xs ws K c
  have h54 := @part54 F _ xs ws K c
  have h55 := @part55 F _ xs ws K c
  have h56 := @part56 F _ xs ws K c
  have h57 := @part57 F _ xs ws K c
  have h58 := @part58 F _ xs ws K c
  have h59 := @part59 F _ xs ws K c
  have h60 := @part60 F _ xs ws K c
  have h61 := @part61 F _ xs ws K c
  generalize @k0_part35 F _ = P35 at h35 ⊢
  generalize @k0_part36 F _ = P36 at h36 ⊢
  generalize @k0_part37 F _ = P37 at h37 ⊢
  generalize @k0_part38 F _ = P38 at h38 ⊢
  generalize @k0_part39 F _ = P39 at h39 ⊢
  generalize @k0_part40 F _ = P40 at h40 ⊢
  generalize @k0_part43 F _ = P43 at h43 ⊢
  generalize @k0_part44 F _ = P44 at h44 ⊢
  generalize @k0_part45 F _ = P45 at h45 ⊢
  generalize @k0_part46 F _ = P46 at h46 ⊢
  generalize @k0_part47 F _ = P47 at h47 ⊢
  generalize @k0_part48 F _ = P48 at h48 ⊢
  generalize @k0_part49 F _ = P49 at h49 ⊢
  generalize @k0_part50 F _ = P50 at h50 ⊢
  generalize @k0_part51 F _ = P51 at h51 ⊢
  generalize @k0_part52 F _ = P52 at h52 ⊢
  generalize @k0_part53 F _ = P53 at h53 ⊢
  generalize @k0_part54 F _ = P54 at h54 ⊢
  generalize @k0_part55 F _ = P55 at h55 ⊢
  generalize @k0_part56 F _ = P56 at h56 ⊢
  generalize @k0_part57 F _ = P57 at h57 ⊢
  generalize @k0_part58 F _ = P58 at h58 ⊢
  generalize @k0_part59 F _ = P59 at h59 ⊢
  generalize @k0_part60 F _ = P60 at h60 ⊢
  generalize @k0_part61 F _ = P61 at h61 ⊢
  refine seq_part (h43 fun r hd h20 hb => .of ?_)
  refine seq_part (h44 hd h20 hb fun _ => .of ?_)
  refine seq_part (h45 hd h20 fun _ => .of ?_)
  refine seq_part (h46 hd h20 fun _ => .of ?_)
  refine seq_part (h47 hd h20 fun _ e470 e471 => .of ?_)
  refine seq_part (h48 hd h20 e470 e471 fun _ => .of ?_)
  refine seq_part (h49 hd h20 fun _ e490 e491 => .of ?_)
  refine seq_part (h50 hd h20 e490 e491 fun _ => .of ?_)
  refine seq_part (h51 hd h20 fun _ => .of ?_)
  refine seq_part (h52 hd h20 fun _ => .of ?_)
  refine seq_part (h53 hd h20 fun _ e530 => .of ?_)
  refine seq_part (h54 hd h20 e530 fun _ => .of ?_)
  refine seq_part (h55 hd h20 fun _ => .of ?_)
  refine seq_part (h56 hd h20 fun _ => .of ?_)
  refine seq_part (h57 hd h20 fun _ => .of ?_)
  refine seq_part (h58 hd h20 fun _ e580 e581 => .of ?_)
  refine seq_part (h59 h20 e580 e581 fun _ => .of ?_)
  refine seq_part (h60 h20 fun _ e600 => .of ?_)
  refine seq_part (h61 h20 e600 fun _ e610 => .of ?_)
  refine seq_word 180 (by clear hk; rw [h20, e610]; clear * -; revert c; decide +kernel) ?_ fun h ha hE => by
    exact seq_part (h35 ha fun _ => .of <| seq_part (h36 ha fun _ => .of <| hE))
  refine seq_word 186 (by clear hk; rw [h20]; clear * -; revert c; decide +kernel) ?_ fun h ha hE => by
    exact seq_part (h37 ha fun _ => .of <| seq_part (h38 ha fun _ => .of <| hE))
  refine seq_word 192 (by clear hk; rw [h20]; clear * -; revert c; decide +kernel) ?_ fun h ha hE => by
    exact seq_part (h39 ha fun _ => .of <| seq_part (h40 ha fun _ => .of <| hE))
  exact St_ret (hk _ h20 (by dsimp only; rw [h20]) rfl)

/-- The body, from its start to its end. -/
theorem body_walk {Q : PUnit → sProp 𝕄} (hk : Ends K xs ws c 198 Q ⟨⟩) : Goes K xs ws c 0 (app (cc0_body (F := F))) Q := by
  rw [cc0_body_eq_skeleton]
  unfold app cc0_body_skel
  simp -zeta -proj only [semSignalWord, semSignalHereWord, semWaitWord, Prog.lift, Prog.bind_op, Prog.bind_ret, Prog.pure_eq_ret, Prog.bind_assoc]
  have h41 := @part41 F _ xs ws K c
  have h42 := @part42 F _ xs ws K c
  have h62 := @part62 F _ xs ws K c
  generalize @k0_part41 F _ = P41 at h41 ⊢
  generalize @k0_part42 F _ = P42 at h42 ⊢
  generalize @k0_part62 F _ = P62 at h62 ⊢
  refine seq_part (h62 fun r ha hb hd => .of ?_)
  refine seq_word 198 (by clear hk; rw [ha, hb, hd]; clear * -; revert c; decide +kernel) ?_ fun h ha hE => by
    exact seq_part (h41 ha fun _ => .of <| seq_part (h42 ha fun _ => .of <| hE))
  exact St_ret hk

end Cert.KernelIdeal.Plan

end
-- ==== Proof.Ends.lean ====
/-
# 01_k — the body's first and last standing

What a device must be handed for its first event, and what is left to it after its last: every half slot its own again, the
result complete, nothing owed, every cell closed.
-/
module

public import proofs.«01_k».proof.Proof.Steps
public import Idealize.ShloMosaic.Lib.Rounds.Family

@[expose] public section

set_option maxRecDepth 65536

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → (cc0_stg0_0 : Ref sig .tc).ty.Contents (Elt F)) (ws : Dev nD → (cc0_stg1_0 : Ref sig .tc).ty.Contents (Elt F))
variable (K : Dev nD × Cx → ℕ) (c : Dev nD)

theorem stat_first (e : Ev) : stat c 0 e = if on c e = true then .live else .off := by
  unfold stat; split
  · rw [if_neg (not_past_zero e)]
  · rfl
theorem stat_last (e : Ev) : stat c 198 e = if on c e = true then .over else .off := by
  unfold stat; split
  · rw [if_pos (past_end e)]
  · rfl
theorem first_live (e : Ev) : stat c 0 e = .live ↔ on c e = true := by rw [stat_first]; split <;> simp_all
theorem first_not_over (e : Ev) : stat c 0 e ≠ .over := by rw [stat_first]; split <;> decide
theorem last_not_live (e : Ev) : stat c 198 e ≠ .live := by rw [stat_last]; split <;> decide

omit [FloatOps F]

/-- A family entails another member by member. -/
theorem each {ι : Type} [Fintype ι] {Φ Ψ : ι → sProp 𝕄} (h : ∀ i, Φ i ⊢ Ψ i) : bigSep Finset.univ Φ ⊢ bigSep Finset.univ Ψ := bigSep_mono fun i _ => h i

/-! ## The scratch in half slots -/

/-- The whole scratch, holding anything, is its half slots, each holding anything; -/
theorem scratch_split : (iprop(∃ f : Buf (Elt F) (sLoc c), sLoc c ↦{fullShare} f) : sProp 𝕄) ⊢ bigSep Finset.univ (free (F := F) c) := by
  iintro ⟨%f, H⟩
  have e : (sLoc c ↦{fullShare} f : sProp 𝕄) = bigSep Finset.univ fun r => sLoc c ↦[rset r]{fullShare} f := by
    rw [← pointsTo_biUnion (ℓ := sLoc c) Finset.univ rset fun r _ r' _ h => rset_disjoint r r' h]
    exact congrArg (fun S => (sLoc c ↦[S]{fullShare} f : sProp 𝕄)) rset_cover.symm
  ihave H' := (Entails.of_eq e) $$ H
  have g (r : Fin 56) : (sLoc c ↦[rset r]{fullShare} f : sProp 𝕄) ⊢ free (F := F) c r := by
    unfold free; iintro H; iexists f; iexact H
  have hm : (bigSep Finset.univ fun r => sLoc c ↦[rset r]{fullShare} f : sProp 𝕄) ⊢ bigSep Finset.univ (free (F := F) c) := each g
  iapply hm; iexact H'
/-- and back. -/
theorem scratch_join : bigSep Finset.univ (free (F := F) c) ⊢ (iprop(∃ f : Buf (Elt F) (sLoc c), sLoc c ↦{fullShare} f) : sProp 𝕄) := by
  rcases isEmpty_or_nonempty (Buf (Elt F) (sLoc c)) with hE | hE
  · iintro H
    ihave H0 := (at_elim (Φ := free (F := F) c) 0) $$ H
    unfold free
    icases H0 with ⟨%f, -⟩
    exact hE.elim f
  have h1 : bigSep Finset.univ (free (F := F) c)
      ⊢ (iprop(∃ fs : Fin 56 → Buf (Elt F) (sLoc c), bigSep Finset.univ fun r => sLoc c ↦[rset r]{fullShare} fs r) : sProp 𝕄) :=
    BI.bigSep_exists_pi Finset.univ (fun (r : Fin 56) (f : Buf (Elt F) (sLoc c)) => (sLoc c ↦[rset r]{fullShare} f : sProp 𝕄))
  iintro H
  ihave H' := h1 $$ H
  icases H' with ⟨%fs, H⟩
  ihave HJ := (pointsTo_biUnion_join (q := fullShare) Finset.univ rset fs (fs 0) (fun r _ r' _ h => rset_disjoint r r' h)) $$ H
  icases HJ with ⟨%g, -, H⟩
  iexists g
  have e : (sLoc c ↦[(Finset.univ : Finset (Fin 56)).biUnion rset]{fullShare} g : sProp 𝕄) = (sLoc c ↦{fullShare} g) :=
    congrArg (fun S => (sLoc c ↦[S]{fullShare} g : sProp 𝕄)) rset_cover
  ihave H'' := (Entails.of_eq e) $$ H
  iexact H''

/-- The half slots a device hands over: those copies land in. -/
def given (r : Fin 56) : sProp 𝕄 := if r.val < 54 ∧ filled c r = true then free (F := F) c r else iprop(emp)

theorem on_fillEv (r : Fin 56) : on c (fillEv r) = filled c r := by revert c r; decide +kernel

theorem free_half (r : Fin 56) : free (F := F) c r = iprop(halfC xs c (stat c 0) r ∗ given c r) := by
  unfold given halfC
  rw [stat_first, on_fillEv]
  by_cases hf : filled c r = true
  · rw [if_pos hf]; dsimp only
    by_cases hr : r.val < 54
    · rw [if_pos hr, if_pos ⟨hr, hf⟩]; exact (eq_of_bi emp_sep).symm
    · rw [if_neg hr, if_neg (show ¬(r.val < 54 ∧ filled c r = true) from fun h => hr h.1)]; exact (eq_of_bi sep_emp).symm
  · rw [if_neg hf, if_neg (show ¬(r.val < 54 ∧ filled c r = true) from fun h => hf h.2)]; exact (eq_of_bi sep_emp).symm

theorem dstHalf_inj : Function.Injective dstHalf := fun X Y h => Fin.ext (by have := congrArg Fin.val h; exact this)

theorem given_lands : bigSep Finset.univ (given (F := F) c)
    ⊢ (bigSep Finset.univ fun X : Fin 54 => if land c X = true then free (F := F) c (dstHalf X) else iprop(emp) : sProp 𝕄) := by
  have h := bigSep_subset (Φ := given (F := F) c) (Finset.subset_univ ((Finset.univ : Finset (Fin 54)).map ⟨dstHalf, dstHalf_inj⟩))
  rw [bigSep_map] at h
  have e (X : Fin 54) : given (F := F) c (dstHalf X) = if land c X = true then free (F := F) c (dstHalf X) else iprop(emp) := by
    unfold given land filled
    have hX : (dstHalf X).val < 54 := X.isLt
    simp only [hX, true_and, if_true]
  exact h.trans (Entails.of_eq (bigSep_congr fun X _ => e X))

theorem act_letter (X : Fin 54) : act (sigDst c (letter X)) X = land c X := by revert c X; decide +kernel
theorem dst_letter (X : Fin 54) : dst (sigDst c (letter X)) X = c := by rw [← letter_src, sigSrc_dst]

/-- What all its signals hand over. -/
theorem lands_signals : (bigSep Finset.univ fun X : Fin 54 => if land c X = true then free (F := F) c (dstHalf X) else iprop(emp) : sProp 𝕄)
    ⊢ bigSep Finset.univ fun i : Fin 6 => barPay (F := F) (sigDst c i) i := by
  unfold barPay
  rw [bigSep_univ_comm]
  refine each fun X => ?_
  refine Entails.of_eq ?_
  rw [bigSep_only (letter X) fun i hi => if_neg fun h => hi ((lets_iff i X).mp h.2)]
  rw [act_letter, dst_letter]
  simp only [(lets_iff (letter X) X).mpr rfl, and_true]

theorem scratch_first : (iprop(∃ f : Buf (Elt F) (sLoc c), sLoc c ↦{fullShare} f) : sProp 𝕄)
    ⊢ iprop(bigSep Finset.univ (halfC xs c (stat c 0)) ∗ bigSep Finset.univ fun i : Fin 6 => barPay (F := F) (sigDst c i) i) := by
  have e : bigSep Finset.univ (free (F := F) c) = iprop(bigSep Finset.univ (halfC xs c (stat c 0)) ∗ bigSep Finset.univ (given (F := F) c)) :=
    (bigSep_congr fun r _ => free_half xs c r).trans (bigSep_sep' _ _ _)
  have h : (iprop(bigSep Finset.univ (halfC xs c (stat c 0)) ∗ bigSep Finset.univ (given (F := F) c)) : sProp 𝕄)
      ⊢ iprop(bigSep Finset.univ (halfC xs c (stat c 0)) ∗ bigSep Finset.univ fun i : Fin 6 => barPay (F := F) (sigDst c i) i) :=
    sep_mono_right ((given_lands c).trans (lands_signals c))
  exact ((scratch_split c).trans (Entails.of_eq e)).trans h

/-! ## The first standing -/

/-- The tokens of the duties device `c` pays. -/
def payToks : sProp 𝕄 :=
  iprop((bigSep Finset.univ fun i : Fin 6 => dutyTok ER (barCell (sigDst c i)) 0 i)
    ∗ (bigSep Finset.univ fun X : Fin 54 => dutyTok ER (recvCell (dst c X) X) 0 0)
    ∗ bigSep Finset.univ fun X : Fin 54 => dutyTok ER (sendCell c X) 0 0)
/-- Its positions at its own cells. -/
def ownPos : sProp 𝕄 :=
  iprop(atPos ER (barCell c) 0 ∅ 0 ∗ (bigSep Finset.univ fun X : Fin 54 => atPos ER (sendCell c X) 0 ∅ 0)
    ∗ bigSep Finset.univ fun X : Fin 54 => atPos ER (recvCell c X) 0 ∅ 0)
/-- Its credits: four units at its barrier cell, a copy's at each receive cell it uses. -/
def ownCred : sProp 𝕄 :=
  iprop(cred (tallyAt (barCell c) () 4) ∗ bigSep Finset.univ fun X : Fin 54 => if land c X = true then cred (tallyAt (recvCell c X) () N) else iprop(emp))

theorem first_sig : iprop((bigSep Finset.univ fun i : Fin 6 => dutyTok ER (barCell (sigDst c i)) 0 i) ∗ bigSep Finset.univ fun i : Fin 6 => barPay (F := F) (sigDst c i) i)
    ⊢ (bigSep Finset.univ (sigC c (stat c 0)) : sProp 𝕄) := by
  rw [← bigSep_sep']
  refine each fun i => ?_
  unfold sigC
  split
  · exact BI.Entails.refl _
  · iintro -; iempintro
theorem first_snd : iprop((bigSep Finset.univ fun X : Fin 54 => dutyTok ER (recvCell (dst c X) X) 0 0) ∗ (bigSep Finset.univ fun X : Fin 54 => dutyTok ER (sendCell c X) 0 0)
    ∗ bigSep Finset.univ fun X : Fin 54 => atPos ER (sendCell c X) 0 ∅ 0) ⊢ (bigSep Finset.univ (sndC c (stat c 0)) : sProp 𝕄) := by
  rw [← bigSep_sep', ← bigSep_sep']
  refine each fun X => ?_
  unfold sndC
  split
  · exact BI.Entails.refl _
  · rename_i h
    rw [first_live] at h
    have h' : stat c 0 (.wsn X) = .off := by rw [stat_first]; exact if_neg h
    rw [h']
    iintro ⟨-, -, H⟩; iexact H
theorem first_rcv : iprop((bigSep Finset.univ fun X : Fin 54 => if land c X = true then cred (tallyAt (recvCell c X) () N) else iprop(emp))
    ∗ bigSep Finset.univ fun X : Fin 54 => atPos ER (recvCell c X) 0 ∅ 0) ⊢ (bigSep Finset.univ (rcvC c (stat c 0)) : sProp 𝕄) := by
  rw [← bigSep_sep']
  refine each fun X => ?_
  unfold rcvC
  rw [stat_first]
  by_cases h : land c X = true
  · rw [if_pos h, if_pos (show on c (.rcv X) = true from h)]
  · rw [if_neg h, if_neg (show ¬on c (.rcv X) = true from h)]
    iintro ⟨-, H⟩; iexact H
theorem first_got : (bigSep Finset.univ (gotC c (stat c 0)) : sProp 𝕄) = iprop(emp) :=
  bigSep_emps fun X _ => if_neg fun h => first_not_over c _ h.2

include xs in
theorem first_bar : iprop(cred (tallyAt (barCell c) () 4) ∗ atPos ER (barCell c) 0 ∅ 0) = (barC c (stat c 0) : sProp 𝕄) := by
  unfold barC; rw [if_neg (first_not_over c _)]

/-- What the device starts from is its first standing. -/
theorem St_first [FloatOps F] : iprop(records xs K ∗ ownPos c ∗ payToks c ∗ ownCred c ∗ levAts L lv ∗ (∃ W : Waits sig Unit, owes (c : Thread nD τ) (owed c (stat c 0)) W)
      ∗ (∃ f : Buf (Elt F) (sLoc c), sLoc c ↦{fullShare} f) ∗ (∃ f : Buf (Elt F) (oLoc c), oLoc c ↦{fullShare} f)
      ∗ (xLoc c ↦{fullShare} xs c) ∗ (wLoc c ↦{fullShare} ws c))
    ⊢ (St K xs ws c 0 : sProp 𝕄) := by
  unfold St holds ownPos payToks ownCred
  rw [first_got, ← first_bar xs]
  iintro ⟨HR, ⟨HaB, HaS, HaV⟩, ⟨HtB, HtV, HtS⟩, ⟨HcB, HcV⟩, HL, HO, Hs, ⟨%f, Ho⟩, Hx, Hw⟩
  ihave Hs' := (scratch_first xs c) $$ Hs
  icases Hs' with ⟨Hh, Hp⟩
  isplitl [HR]; · iexact HR
  isplitl [HL]; · iexact HL
  isplitl [HO]; · iexact HO
  isplitl [HtB Hp]
  · iapply (first_sig c); isplitl [HtB]; · iexact HtB
    iexact Hp
  isplitl [HcB HaB]
  · isplitl [HcB]; · iexact HcB
    iexact HaB
  isplitl [HtV HtS HaS]
  · iapply (first_snd c); isplitl [HtV]; · iexact HtV
    isplitl [HtS]; · iexact HtS
    iexact HaS
  isplitr; · iempintro
  isplitl [HcV HaV]
  · iapply (first_rcv c); isplitl [HcV]; · iexact HcV
    iexact HaV
  isplitl [Hh]; · iexact Hh
  isplitl [Ho]
  · unfold outC; iexists f
    isplitr; · ipureintro; exact fun k hk => absurd hk (first_not_over c _)
    iexact Ho
  isplitl [Hx]; · iexact Hx
  iexact Hw

/-! ## The last standing -/

theorem half_free (r : Fin 56) : (halfC xs c (stat c 198) r : sProp 𝕄) ⊢ free (F := F) c r := by
  unfold halfC
  rw [stat_last]
  split
  · rename_i h
    rw [show (iprop(full xs c r fullShare.left ∗ bigSep Finset.univ (lentC xs c (stat c 198) r)) : sProp 𝕄) = full xs c r fullShare from by
      rw [full_split]
      exact congrArg _ (bigSep_congr fun a _ => if_neg fun ⟨Y, _, _, _, e⟩ => last_not_live c _ e)]
    unfold full free
    iintro H; iexists (filledWith xs c); iexact H
  · rename_i h
    split at h <;> cases h
  · exact BI.Entails.refl _

theorem owed_last : owed c (stat c 198) = 0 := by
  unfold owed
  rw [Finset.sum_eq_zero fun X _ => if_neg (last_not_live c _), Finset.sum_eq_zero fun i _ => if_neg (last_not_live c _), add_zero]

theorem out_last [FloatOps F] (f : Buf (Elt F) (oLoc c)) (h : outOk xs ws c (stat c 198) f) : f = outAt xs ws c := by
  funext i
  have hi : ((i : S1024x64.Idx) 0).val / 64 < 16 := by have : ((i : S1024x64.Idx) 0).val < 1024 := ((i : S1024x64.Idx) 0).isLt; omega
  obtain ⟨k, hv, ho⟩ := origin_surj c ⟨((i : S1024x64.Idx) 0).val / 64, hi⟩
  exact h k (by rw [stat_last]; exact if_pos hv) i (by rw [ho])

/-- The round its owner stands at, at each of its cells. -/
def lastR : Cx → ℕ
  | .inl _ => 1
  | .inr (.inl X) => if act c X = true then 1 else 0
  | .inr (.inr X) => if land c X = true then 1 else 0

theorem lastR_snd (X : Fin 54) : lastR c (.inr (.inl X)) = if act c X = true then 1 else 0 := rfl
theorem lastR_rcv (X : Fin 54) : lastR c (.inr (.inr X)) = if land c X = true then 1 else 0 := rfl

theorem last_duties (k : Cx) (r : ℕ) (h : lastR c k ≤ r) : (Rd (F := F) xs).duties (kcell (c, k)) r = ∅ := by
  by_cases h1 : 1 ≤ r
  · exact duties_later xs _ r h1
  · have h0 : r = 0 := by omega
    subst h0
    match k with
    | .inl _ => exact absurd h (by unfold lastR; omega)
    | .inr (.inl X) =>
      refine (duties_send xs c X).trans (if_neg fun ha => ?_)
      rw [lastR_snd] at h; rw [if_pos ha] at h; omega
    | .inr (.inr X) =>
      refine (duties_recv xs c X).trans (if_neg fun ha => ?_)
      rw [lastR_rcv] at h; rw [if_pos ha] at h; omega

theorem last_bar : (barC c (stat c 198) : sProp 𝕄) = atPos ER (kcell (c, .inl ())) (lastR c (.inl ())) ∅ 0 := by
  unfold barC; rw [stat_last]; exact if_pos rfl
theorem last_snd (X : Fin 54) : (sndC c (stat c 198) X : sProp 𝕄) = atPos ER (kcell (c, .inr (.inl X))) (lastR c (.inr (.inl X))) ∅ 0 := by
  unfold sndC
  rw [lastR_snd, if_neg (last_not_live c _), stat_last]
  by_cases h : act c X = true
  · rw [if_pos (show on c (.wsn X) = true from h), if_pos h]; rfl
  · rw [if_neg (show ¬on c (.wsn X) = true from h), if_neg h]; rfl
theorem last_rcv (X : Fin 54) : (rcvC c (stat c 198) X : sProp 𝕄) = atPos ER (kcell (c, .inr (.inr X))) (lastR c (.inr (.inr X))) ∅ 0 := by
  unfold rcvC
  rw [lastR_rcv, stat_last]
  by_cases h : land c X = true
  · rw [if_pos (show on c (.rcv X) = true from h), if_pos h]; rfl
  · rw [if_neg (show ¬on c (.rcv X) = true from h), if_neg h]; rfl

theorem bigSep_cx (Φ : Cx → sProp 𝕄) : bigSep Finset.univ Φ = iprop(Φ (.inl ()) ∗ (bigSep Finset.univ fun X => Φ (.inr (.inl X))) ∗ bigSep Finset.univ fun X => Φ (.inr (.inr X))) := by
  rw [bigSep_univ_sum, bigSep_univ_sum, bigSep_univ_of_subsingleton ()]
  rfl

theorem last_pos : iprop(barC c (stat c 198) ∗ bigSep Finset.univ (sndC c (stat c 198)) ∗ bigSep Finset.univ (rcvC c (stat c 198)))
    = (bigSep Finset.univ fun k : Cx => atPos ER (kcell (c, k)) (lastR c k) ∅ 0 : sProp 𝕄) := by
  rw [bigSep_cx, last_bar, bigSep_congr fun X _ => last_snd c X, bigSep_congr fun X _ => last_rcv c X]

theorem records_own : (records xs K : sProp 𝕄) ⊢ bigSep Finset.univ fun k : Cx => cellInv ER (Rd xs) (K (c, k)) (kcell (c, k)) := by
  have h : iprop(records xs K ∗ bigSep Finset.univ fun _ : Cx => iprop(emp)) ⊢ (bigSep Finset.univ fun k : Cx => cellInv ER (Rd xs) (K (c, k)) (kcell (c, k)) : sProp 𝕄) := by
    refine (sep_mono_left (BI.bigSep_of_persistent (Finset.univ : Finset Cx) (records xs K))).trans ?_
    rw [← bigSep_sep']
    have g (k : Cx) : iprop(records xs K ∗ emp) ⊢ (cellInv ER (Rd xs) (K (c, k)) (kcell (c, k)) : sProp 𝕄) := by
      iintro ⟨H, -⟩; iapply (records_inv xs K (c, k)); iexact H
    exact each g
  rw [bigSep_emps (fun _ _ => rfl)] at h
  iintro H; iapply h; isplitl; · iexact H
  iempintro

/-- Its cells close. -/
theorem last_close : iprop(records xs K ∗ bigSep Finset.univ fun k : Cx => atPos ER (kcell (c, k)) (lastR c k) ∅ 0)
    ⊢ (iprop(|={Set.univ}=> bigSep Finset.univ fun k : Cx => semVal (kcell (c, k)) 0) : sProp 𝕄) := by
  have h := Rounds.cells_close (ER (F := F)) (Rd xs) Finset.univ (fun k : Cx => kcell (c, k)) (fun k => K (c, k)) (Es := Set.univ) (fun k _ => Set.mem_univ _)
    (fun k _ h => h) (lastR c) (fun k _ r hr => last_duties xs c k r hr)
  rw [bigSep_sep'] at h
  iintro ⟨H1, H2⟩
  iapply h
  isplitl [H1]
  · iapply (records_own xs K c); iexact H1
  iexact H2

/-- The last standing leaves the device its scratch, the blocks, the result, nothing owed and every cell at zero. -/
theorem St_last [FloatOps F] : (St K xs ws c 198 : sProp 𝕄)
    ⊢ iprop(|={Set.univ}=> ((∃ f : Buf (Elt F) (sLoc c), sLoc c ↦{fullShare} f) ∗ (bigSep Finset.univ fun k : Cx => semVal (kcell (c, k)) 0)
      ∗ (∃ W : Waits sig Unit, owes (c : Thread nD τ) 0 W) ∗ (oLoc c ↦{fullShare} outAt xs ws c)
      ∗ (xLoc c ↦{fullShare} xs c) ∗ (wLoc c ↦{fullShare} ws c))) := by
  unfold St holds
  rw [owed_last]
  iintro ⟨HR, -, HO, -, HaB, HaS, -, HaV, Hh, Ho, Hx, Hw⟩
  imod (last_close xs K c) $$ [HR HaB HaS HaV] with Hz
  · isplitl [HR]; · iexact HR
    iapply (Entails.of_eq (last_pos c))
    isplitl [HaB]; · iexact HaB
    isplitl [HaS]; · iexact HaS
    iexact HaV
  imodintro
  isplitl [Hh]
  · iapply (scratch_join c)
    have hm : bigSep Finset.univ (halfC xs c (stat c 198)) ⊢ bigSep Finset.univ (free (F := F) c) := each fun r => half_free xs c r
    iapply hm; iexact Hh
  isplitl [Hz]; · iexact Hz
  isplitl [HO]; · iexact HO
  isplitl [Ho]
  · unfold outC
    icases Ho with ⟨%f, %hf, Ho⟩
    rw [← out_last xs ws c f hf]; iexact Ho
  isplitl [Hx]; · iexact Hx
  iexact Hw

end Cert.KernelIdeal.Plan

end
-- ==== Proof.Launch.lean ====
/-
# 01_k — the launch

The pipeline's proof data, the body's obligation from the walk, the cells allocated for all devices at once and their tokens
dealt to the devices that pay, the launch credits, and the run.
-/
module

public import proofs.«01_k».proof.Proof.Whole
public import proofs.«01_k».proof.Proof.Ends
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option maxRecDepth 65536

noncomputable section

namespace Cert.KernelIdeal.Plan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- The blocks of `x` and `w` as staged on each device. -/
def xstg (c : Dev nD) : (cc0_stg0_0 : Ref sig .tc).ty.Contents (Elt F) := (win0_0.blk (0 : Fin 1)).view.read (Elt F) ((s₀ m ρ).mem ((c : Thread nD τ).loc main_arg0))
def wstg (c : Dev nD) : (cc0_stg1_0 : Ref sig .tc).ty.Contents (Elt F) := (win0_1.blk (0 : Fin 1)).view.read (Elt F) ((s₀ m ρ).mem ((c : Thread nD τ).loc main_arg1))

/-- What device `c` owes at launch: every signal and every copy it makes. -/
def O₀ (c : Dev nD) : CellTallies nD τ sig Unit := owed c (stat c 0)

/-- What the launch's ghost state leaves device `c`: the records of all cells, its positions, the tokens it pays with. -/
def ghost (c : Dev nD) : sProp 𝕄 := iprop(∃ K, records (xstg m ρ) K ∗ ownPos c ∗ payToks c)
def start (c : Dev nD) : sProp 𝕄 := iprop(ghost m ρ c ∗ ownCred c ∗ levAts L lv)
def Φ₀ (c : Dev nD) : sProp 𝕄 := iprop(start m ρ c ∗ ∃ f : Buf (Elt F) (sLoc c), sLoc c ↦{fullShare} f)
def Φ₁ (c : Dev nD) : sProp 𝕄 :=
  iprop((∃ f : Buf (Elt F) (sLoc c), sLoc c ↦{fullShare} f) ∗ bigSep Finset.univ fun k : Cx => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt (xstg m ρ) (wstg m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staging buffer of device `c` holding `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPost (c : Dev nD) : sProp 𝕄 :=
  iprop(Φ₁ c ∗ (dats m ρ 0 c).owesAt () t₀.succ
    ∗ stg c cc0_stg0_0 (xstg m ρ c) ∗ stg c cc0_stg1_0 (wstg m ρ c) ∗ stg c cc0_stg2_0 (outAt (xstg m ρ) (wstg m ρ) c))
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

theorem before_x (c : Dev nD) (d) : (dats m ρ 0 c).before (0 : Fin 3) t₀ d = xstg m ρ c := by
  unfold Dat.before; rw [if_pos (fetch0_0 t₀)]; rfl
theorem before_w (c : Dev nD) (d) : (dats m ρ 0 c).before (1 : Fin 3) t₀ d = wstg m ρ c := by
  unfold Dat.before; rw [if_pos (fetch0_1 t₀)]; rfl

theorem pre_first (c : Dev nD) : bodyPre m ρ c ⊢ (iprop(∃ K, St K (xstg m ρ) (wstg m ρ) c 0) : sProp 𝕄) := by
  unfold bodyPre Φ₀ start ghost stg
  simp only [before_x, before_w]
  iintro ⟨⟨⟨⟨%K, HR, Hat, Htok⟩, Hcr, HL⟩, Hs⟩, Ho, ⟨%d0, %gx, %hx, Hx⟩, ⟨%d1, %gw, %hw, Hw⟩, ⟨%d2, %go, -, Hout⟩⟩
  subst hx hw
  unfold Dat.owesAt Pipeline.owesWithin
  icases Ho with ⟨%W, %hW, HO⟩
  iexists K
  iapply (St_first (xstg m ρ) (wstg m ρ) K c)
  isplitl [HR]; · iexact HR
  isplitl [Hat]; · iexact Hat
  isplitl [Htok]; · iexact Htok
  isplitl [Hcr]; · iexact Hcr
  isplitl [HL]; · iexact HL
  isplitl [HO]; · iexists W; iexact HO
  isplitl [Hs]; · iexact Hs
  isplitl [Hout]; · iexists go; iexact Hout
  isplitl [Hx]; · iexact Hx
  iexact Hw

theorem last_post (c : Dev nD) (K : Dev nD × Cx → ℕ) : (St K (xstg m ρ) (wstg m ρ) c 198 : sProp 𝕄) ⊢ iprop(|={Set.univ}=> bodyPost m ρ c) := by
  iintro H
  imod (St_last (xstg m ρ) (wstg m ρ) K c) $$ H with ⟨Hs, Hz, ⟨%W, HO⟩, Ho, Hx, Hw⟩
  imodintro
  unfold bodyPost Φ₁ stg Dat.owesAt Pipeline.owesWithin
  isplitl [Hs Hz]
  · isplitl [Hs]; · iexact Hs
    iexact Hz
  isplitl [HO]
  · iexists W
    isplitr; · ipureintro; exact fun _ _ => Or.inl trivial
    iexact HO
  isplitl [Hx]
  · iexists (xstg m ρ c); isplitr; · (ipureintro; rfl)
    iexact Hx
  isplitl [Hw]
  · iexists (wstg m ρ c); isplitr; · (ipureintro; rfl)
    iexact Hw
  iexists (outAt (xstg m ρ) (wstg m ρ) c); isplitr; · (ipureintro; rfl)
  iexact Ho

/-- The body, from the pipeline's entry to its exit. -/
theorem sound_body (c : Dev nD) : bodyPre m ρ c ⊢ (runs c (app (cc0_body (F := F))) fun _ => iprop(|={Set.univ}=> bodyPost m ρ c)) := by
  iintro H
  ihave H' := (pre_first m ρ c) $$ H
  icases H' with ⟨%K, H'⟩
  have hE : Ends K (xstg m ρ) (wstg m ρ) c 198 (fun _ : PUnit => iprop(|={Set.univ}=> bodyPost m ρ c)) ⟨⟩ := last_post m ρ c K
  have hg : (St K (xstg m ρ) (wstg m ρ) c 0 : sProp 𝕄) ⊢ (runs c (app (cc0_body (F := F))) fun _ => iprop(|={Set.univ}=> bodyPost m ρ c)) := body_walk hE
  iapply hg; iexact H'

theorem sound_body' (c : Dev nD) : bodyPre m ρ c ⊢ (runs c (app (cc0_body (F := F))) fun _ => bodyPost m ρ c) :=
  (sound_body m ρ c).trans (wp_fupd _ _ _ _ _)

/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body' m ρ c

/-! ## The cells, allocated for all devices at once -/

/-- The kernel's own semaphores: the copies' two. -/
abbrev osem : Fin 54 ⊕ Fin 54 → SemLoc sig
  | .inl X => .dma (sendS X)
  | .inr X => .dma (recvS X)

theorem ownSemFacts : Pipeline.OwnSemFacts cfg0.spec osem := by decide +kernel

theorem share_eq (c : Dev nD) (w : Fin cfg0.W) : (dats m ρ 0 c).share w = fullShare := by unfold Dat.share; split <;> rfl

theorem kcell_injective : Function.Injective (kcell : Dev nD × Cx → GSem nD τ sig) := by
  have hi := ownSemFacts.inj
  have hc (p : Dev nD × Cx) : (kcell p).1.1 = p.1 := by
    obtain ⟨c, k⟩ := p
    rcases k with _ | X | X <;> rfl
  rintro ⟨c, k⟩ ⟨c', k'⟩ h
  have h1 : c = c' := by
    have h0 : (kcell (c, k)).1.1 = (kcell (c', k')).1.1 := congrArg (fun g : GSem nD τ sig => g.1.1) h
    rw [hc, hc] at h0; exact h0
  subst h1
  have h2 : (kcell (c, k)).2 = (kcell (c, k')).2 := congrArg Prod.snd h
  rcases k with ⟨⟩ | k <;> rcases k' with ⟨⟩ | k'
  · rfl
  · exfalso; rcases k' with X | X <;> cases h2
  · exfalso; rcases k with X | X <;> cases h2
  · have h3 : osem k = osem k' := by
      rcases k with X | X <;> rcases k' with Y | Y <;> exact h2
    rw [hi h3]
def allCells : Finset (GSem nD τ sig) := Finset.univ.map ⟨kcell, kcell_injective⟩

/-- The tokens of a device's own cells as minted: six at its barrier cell, one at each other. -/
abbrev Tx : Type := Fin 6 ⊕ (Fin 54 ⊕ Fin 54)
def tokOf (p : Dev nD × Tx) : GSem nD τ sig × ℕ × Fin 6 :=
  match p.2 with
  | .inl i => (kcell (p.1, .inl ()), 0, i)
  | .inr k => (kcell (p.1, .inr k), 0, 0)
theorem tokOf_injective : Function.Injective tokOf := by
  rintro ⟨c, k⟩ ⟨c', k'⟩ h
  rcases k with i | k <;> rcases k' with i' | k'
  · have h1 := kcell_injective (a₁ := (c, .inl ())) (a₂ := (c', .inl ())) (congrArg Prod.fst h)
    have h2 : i = i' := congrArg (fun x : GSem nD τ sig × ℕ × Fin 6 => x.2.2) h
    have h3 : c = c' := congrArg Prod.fst h1
    rw [h2, h3]
  · have h1 := kcell_injective (a₁ := (c, .inl ())) (a₂ := (c', .inr k')) (congrArg Prod.fst h)
    cases congrArg Prod.snd h1
  · have h1 := kcell_injective (a₁ := (c, .inr k)) (a₂ := (c', .inl ())) (congrArg Prod.fst h)
    cases congrArg Prod.snd h1
  · have h1 := kcell_injective (a₁ := (c, .inr k)) (a₂ := (c', .inr k')) (congrArg Prod.fst h)
    have h3 : c = c' := congrArg Prod.fst h1
    have h4 : k = k' := Sum.inr.inj (congrArg Prod.snd h1)
    rw [h3, h4]
def allToks : Finset (GSem nD τ sig × ℕ × Fin 6) := Finset.univ.map ⟨tokOf, tokOf_injective⟩

def u₀ : UU := (initOf (Pipeline.cells cfgs cellOf_inj) (Pipeline.launchToks cfgs cellOf_inj), initOf allCells allToks)

/-- The duty tokens of device `c`'s own cells. -/
def toks (c : Dev nD) : sProp 𝕄 :=
  iprop((bigSep Finset.univ fun i : Fin 6 => dutyTok ER (barCell c) 0 i) ∗ (bigSep Finset.univ fun X : Fin 54 => dutyTok ER (sendCell c X) 0 0)
    ∗ bigSep Finset.univ fun X : Fin 54 => dutyTok ER (recvCell c X) 0 0)

/-- What the launch deals device `c`. -/
def G (c : Dev nD) : sProp 𝕄 :=
  iprop((bigSep Finset.univ fun k : Cx => roundState ER (Rd (xstg m ρ)) (kcell (c, k)) 0)
    ∗ (bigSep Finset.univ fun k : Cx => iprop(atPos ER (kcell (c, k)) 0 ∅ 0 ∗ reached ER (kcell (c, k)) 0)) ∗ toks c)

omit [FloatOps F] in
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (Rd (xstg m ρ)) allCells allToks) $$ HX with ⟨Hst, Hr, Hat, Htok⟩
  imodintro
  ihave Hst' := (Entails.of_eq (hX fun g => roundState ER (Rd (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the one semaphore not scoped to the launch. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl
omit [FloatOps F] in
theorem bigSep_two (Φ : Fin 54 ⊕ Fin 54 → sProp 𝕄) : bigSep Finset.univ Φ = iprop((bigSep Finset.univ fun X => Φ (.inl X)) ∗ bigSep Finset.univ fun X => Φ (.inr X)) :=
  bigSep_univ_sum Φ
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cx => semVal (kcell (c, k)) 0 : sProp 𝕄) := by
  rw [unscopedSems0_eq, bigSep_cx]
  unfold Pipeline.ownSems0
  rw [bigSep_two]
  iintro ⟨⟨HS, HV⟩, HB⟩
  isplitl [HB]; · iexact HB
  isplitl [HS]; · iexact HS
  iexact HV
omit [FloatOps F] in
theorem sems0_back (c : Dev nD) : (bigSep Finset.univ fun k : Cx => semVal (kcell (c, k)) 0 : sProp 𝕄)
    ⊢ iprop(unscopedSems0 c ∗ Pipeline.ownSems0 (Ix := Unit) (Name := ℕ) (U := UU) (Lvl := ℕ) (Val := Elt F) (τ := τ) osem c) := by
  rw [unscopedSems0_eq, bigSep_cx]
  unfold Pipeline.ownSems0
  rw [bigSep_two]
  iintro ⟨HB, HS, HV⟩
  isplitl [HB]; · iexact HB
  isplitl [HS]; · iexact HS
  iexact HV

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cx => iprop(∃ κ : ℕ, cellInv ER (Rd (xstg m ρ)) κ (kcell (c, k))))
          ∗ (bigSep Finset.univ fun k : Cx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cx => semVal (kcell (c, k)) 0) ∗ bigSep Finset.univ fun k : Cx => roundState ER (Rd (xstg m ρ)) (kcell (c, k)) 0)
      ⊢ (|={Set.univ}=> bigSep Finset.univ fun k : Cx => iprop(∃ κ : ℕ, cellInv ER (Rd (xstg m ρ)) κ (kcell (c, k))) : sProp 𝕄) from by
        rw [← bigSep_sep']
        exact (bigSep_mono fun k _ => (Rounds.body_intro ER (Rd (xstg m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over the devices and an index, each index's devices permuted. -/
theorem bigSep_turn {I : Type} [Fintype I] (e : I → (Dev nD ≃ Dev nD)) (Φ : Dev nD → I → sProp 𝕄) :
    (bigSep Finset.univ fun c : Dev nD => bigSep Finset.univ fun i : I => Φ c i) = bigSep Finset.univ fun c : Dev nD => bigSep Finset.univ fun i : I => Φ (e i c) i := by
  rw [BI.bigSep_univ_comm, BI.bigSep_univ_comm (fun (c : Dev nD) (i : I) => Φ (e i c) i)]
  exact bigSep_congr fun i _ => bigSep_univ_equiv (e i) (fun c => Φ c i)

omit [FloatOps F] in
/-- The tokens go to the devices that pay: a barrier cell's to its signals' senders, a receive cell's to the copy's sender. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_turn sigEquiv (fun (c : Dev nD) (i : Fin 6) => (dutyTok ER (barCell c) 0 i : sProp 𝕄)),
    bigSep_turn (fun X : Fin 54 => stepEquiv (dirOf X)) (fun (c : Dev nD) (X : Fin 54) => (dutyTok ER (recvCell c X) 0 0 : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (K : Dev nD × Cx → ℕ) (c : Dev nD) : iprop(records (xstg m ρ) K ∗ (bigSep Finset.univ fun k : Cx => atPos ER (kcell (c, k)) 0 ∅ 0) ∗ payToks c)
    ⊢ ghost m ρ c := by
  unfold ghost ownPos
  rw [bigSep_cx]
  iintro ⟨HR, Ha, Ht⟩
  iexists K
  isplitl [HR]; · iexact HR
  isplitl [Ha]; · iexact Ha
  iexact Ht

omit [FloatOps F] in
theorem regroup :
    (bigSep Finset.univ fun c : Dev nD => iprop((bigSep Finset.univ fun k : Cx => iprop(∃ κ : ℕ, cellInv ER (Rd (xstg m ρ)) κ (kcell (c, k))))
          ∗ (bigSep Finset.univ fun k : Cx => iprop(atPos ER (kcell (c, k)) 0 ∅ 0 ∗ reached ER (kcell (c, k)) 0)) ∗ toks c) : sProp 𝕄)
      ⊢ bigSep Finset.univ (ghost m ρ) := by
  rw [bigSep_sep', bigSep_sep', ← bigSep_univ_prod (fun ck : Dev nD × Cx => iprop(∃ κ : ℕ, cellInv ER (Rd (xstg m ρ)) κ (kcell ck))),
    bigSep_congr (s := Finset.univ) (fun (c : Dev nD) _ => bigSep_sep' Finset.univ (fun k : Cx => (atPos ER (kcell (c, k)) 0 ∅ 0 : sProp 𝕄)) (fun k => reached ER (kcell (c, k)) 0)),
    bigSep_sep', ← bigSep_univ_prod (fun ck : Dev nD × Cx => (reached ER (kcell ck) 0 : sProp 𝕄))]
  iintro ⟨HI, ⟨Hat, #HR⟩, Htok⟩
  ihave HK := (BI.bigSep_exists_pi Finset.univ (fun (ck : Dev nD × Cx) (κ : ℕ) => (cellInv ER (Rd (xstg m ρ)) κ (kcell ck) : sProp 𝕄))) $$ HI
  icases HK with ⟨%K, #HI⟩
  ihave Htk := (toks_around (F := F)) $$ Htok
  iapply (bigSep_with_persistent (R := records (xstg m ρ) K) fun c _ => ghost_intro m ρ K c)
  isplitr
  · unfold records; isplitl; · iexact HI
    iexact HR
  · iapply (Entails.of_eq (bigSep_sep' Finset.univ (fun c : Dev nD => bigSep Finset.univ fun k : Cx => (atPos ER (kcell (c, k)) 0 ∅ 0 : sProp 𝕄)) payToks).symm)
    isplitl [Hat]; · iexact Hat
    iexact Htk

omit [FloatOps F] in
/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The launch credits -/

section Credits
omit [FloatOps F]

theorem recv_eq {a b : Dev nD} {X Y : Fin 54} (h : recvCell a X = recvCell b Y) : a = b ∧ X = Y := by
  have := kcell_injective (a₁ := (a, .inr (.inr X))) (a₂ := (b, .inr (.inr Y))) h
  cases this; exact ⟨rfl, rfl⟩
theorem bar_eq {a b : Dev nD} (h : barCell a = barCell b) : a = b := by
  have := kcell_injective (a₁ := (a, .inl ())) (a₂ := (b, .inl ())) h
  cases this; rfl
theorem recv_ne_bar (a b : Dev nD) (X : Fin 54) : recvCell a X ≠ barCell b := fun h => by
  have := kcell_injective (a₁ := (a, .inr (.inr X))) (a₂ := (b, .inl ())) h
  cases this

theorem due_apply (b : Bool) (st : Stat) (hs : st = .live ↔ b = true) (g g' : GSem nD τ sig) (n : ℕ) :
    ((if st = .live then tallyAt g () n else 0 : CellTallies nD τ sig Unit) g') () = if b = true ∧ g = g' then n else 0 := by
  by_cases h : b = true
  · rw [if_pos (hs.mpr h), tallyAt_apply]
    by_cases hg : g = g'
    · rw [if_pos ⟨hg.symm, rfl⟩, if_pos ⟨h, hg⟩]
    · rw [if_neg fun h' => hg h'.1.symm, if_neg fun h' => hg h'.2]
  · rw [if_neg fun h' => h (hs.mp h'), if_neg fun h' => h h'.1]; rfl

theorem O₀_apply (d : Dev nD) (g : GSem nD τ sig) : O₀ d g () =
    (∑ X : Fin 54, if act d X = true ∧ recvCell (dst d X) X = g then N else 0) + ∑ i : Fin 6, if sigOn d i = true ∧ barCell (sigDst d i) = g then 1 else 0 := by
  unfold O₀ owed
  rw [Pi.add_apply, Finsupp.add_apply, Finset.sum_apply, Finset.sum_apply, Finsupp.finset_sum_apply, Finsupp.finset_sum_apply]
  exact congrArg₂ (· + ·) (Finset.sum_congr rfl fun X _ => due_apply (act d X) _ (first_live d (.snd X)) _ _ _)
    (Finset.sum_congr rfl fun i _ => due_apply (sigOn d i) _ (first_live d (.sig i)) _ _ _)

/-- A device is owed four units at its barrier cell, -/
theorem owed_bar (c : Dev nD) : ∑ d : Dev nD, O₀ d (barCell c) () = 4 := by
  have h (d : Dev nD) : O₀ d (barCell c) () = ∑ i : Fin 6, if sigOn d i = true ∧ sigDst d i = c then 1 else 0 := by
    rw [O₀_apply, Finset.sum_eq_zero fun X _ => if_neg fun h => recv_ne_bar _ _ _ h.2, zero_add]
    refine Finset.sum_congr rfl fun i _ => ?_
    by_cases hs : sigDst d i = c
    · rw [hs]; simp only [and_true]
    · rw [if_neg fun h => hs (bar_eq h.2), if_neg fun h => hs h.2]
  rw [Finset.sum_congr rfl fun d _ => h d]
  clear h
  revert c; decide +kernel

/-- and a copy's credit at the receive cell of each copy it is to receive. -/
theorem owed_recv (c : Dev nD) (X : Fin 54) : ∑ d : Dev nD, O₀ d (recvCell c X) () = if land c X = true then N else 0 := by
  have h (d : Dev nD) : O₀ d (recvCell c X) () = if d = (stepEquiv (dirOf X)).symm c then (if land c X = true then N else 0) else 0 := by
    rw [O₀_apply, Finset.sum_eq_zero (s := (Finset.univ : Finset (Fin 6))) fun i _ => if_neg fun h => recv_ne_bar _ _ _ h.2.symm, add_zero]
    rw [Finset.sum_eq_single X (fun Y _ hY => if_neg fun h => hY (recv_eq h.2).2) fun h => absurd (Finset.mem_univ _) h]
    by_cases hd : d = (stepEquiv (dirOf X)).symm c
    · have hd' : dst d X = c := by rw [hd]; exact (stepEquiv (dirOf X)).apply_symm_apply c
      rw [if_pos hd, hd']
      unfold act; rw [hd']
      simp only [and_true]
    · rw [if_neg hd, if_neg fun h => hd ?_]
      rw [← (recv_eq h.2).1]; exact ((stepEquiv (dirOf X)).symm_apply_apply d).symm
  rw [Finset.sum_congr rfl fun d _ => h d, Finset.sum_ite_eq' Finset.univ _ fun _ => (if land c X = true then N else 0), if_pos (Finset.mem_univ _)]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, owed_bar]
theorem launch_recv (c : Dev nD) (X : Fin 54) (h : land c X = true) :
    tallyOn (recvCell c X) (launchCredit (Pipeline.owing O₀) 0 (recvCell c X)) = (tallyAt (recvCell c X) () N : CellTallies nD τ sig Unit) := by
  unfold tallyAt; refine congrArg _ (Finsupp.ext fun u => ?_); cases u
  rw [Pipeline.launchCredit_owing, Finsupp.single_eq_same, owed_recv, if_pos h]

/-- The cells a device is owed at. -/
def credSem : Unit ⊕ Fin 54 → SemLoc sig
  | .inl _ => .reg barS
  | .inr X => .dma (recvS X)
theorem credSem_injective : Function.Injective credSem := by
  rintro (⟨⟩ | X) (⟨⟩ | Y) h
  · rfl
  · cases h
  · cases h
  · rw [(recv_eq (a := (0 : Dev nD)) (b := (0 : Dev nD)) (congrArg (Prod.mk ((0 : Dev nD) : Thread nD τ)) h)).2]

theorem creds (c : Dev nD) : (Pipeline.launchCred O₀ c : sProp 𝕄) ⊢ ownCred c := by
  unfold Pipeline.launchCred ownCred
  have h := bigSep_subset (Φ := fun sm : SemLoc sig => (cred (tallyOn ((c.tc : Thread nD τ), sm) (launchCredit (Pipeline.owing O₀) 0 ((c.tc : Thread nD τ), sm))) : sProp 𝕄))
    (Finset.subset_univ ((Finset.univ : Finset (Unit ⊕ Fin 54)).map ⟨credSem, credSem_injective⟩))
  rw [bigSep_map, bigSep_univ_sum, bigSep_univ_of_subsingleton ()] at h
  have h' : (bigSep Finset.univ fun sm : SemLoc sig => (cred (tallyOn ((c.tc : Thread nD τ), sm) (launchCredit (Pipeline.owing O₀) 0 ((c.tc : Thread nD τ), sm))) : sProp 𝕄))
      ⊢ iprop(cred (tallyOn (barCell c) (launchCredit (Pipeline.owing O₀) 0 (barCell c)))
        ∗ bigSep Finset.univ fun X : Fin 54 => cred (tallyOn (recvCell c X) (launchCredit (Pipeline.owing O₀) 0 (recvCell c X)))) := h
  refine BIBase.Entails.trans h' ?_
  have h1 : (cred (tallyOn (barCell c) (launchCredit (Pipeline.owing O₀) 0 (barCell c))) : sProp 𝕄) ⊢ cred (tallyAt (barCell c) () 4) := by
    rw [launch_bar]
  have h2 : (bigSep Finset.univ fun X : Fin 54 => cred (tallyOn (recvCell c X) (launchCredit (Pipeline.owing O₀) 0 (recvCell c X))) : sProp 𝕄)
      ⊢ bigSep Finset.univ fun X : Fin 54 => if land c X = true then cred (tallyAt (recvCell c X) () N) else iprop(emp) := by
    refine each fun X => ?_
    by_cases hl : land c X = true
    · rw [if_pos hl, launch_recv c X hl]
    · rw [if_neg hl]; iintro -; iempintro
  iintro ⟨H1, H2⟩
  isplitl [H1]
  · iapply h1; iexact H1
  iapply h2; iexact H2

end Credits

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  iintro ⟨Hr, Hz⟩
  ihave Hz' := (sems0_back (F := F) c) $$ Hz
  icases Hz' with ⟨Hu, Ho⟩
  isplitl [Hu]; · iexact Hu
  isplitl [Ho]; · iexact Ho
  iexact Hr

omit [FloatOps F] in
theorem mayWait_stage (c : Dev nD) (q : DmaSem sig) (hq : recvOf q.val = none) (O : CellTallies nD τ sig Unit) (hO : O = O₀ c ∨ O = 0) :
    (levAts L lv : sProp 𝕄) ⊢ MayWait (c : Thread nD τ) (.dma q) () O := by
  rcases hO with rfl | rfl
  · refine mayWait_of c _ _ fun g u hg => ?_
    have hl : lvOf (.dma q) = 0 := by unfold lvOf; dsimp only; rw [hq]
    rw [hl]
    rcases owed_pos hg with ⟨Y, hY, rfl⟩ | ⟨i, hi, rfl⟩
    · exact ⟨rfl, by rw [lv_recv]; omega⟩
    · exact ⟨rfl, by rw [lv_bar]; omega⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair execution ends, and at every end each device's
    arrays hold the contents computed here and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of `x` and `w` end as they were. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Plan

end
-- ==== Proof.Frames.lean ====
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

/-! # The three frames

The kernel's run over any float values leaves its two arguments as they were and every counter at zero. Taken over
reals and over bit patterns, it gives the frame of each of the two printed forms of the kernel. The reference's frame
is its run. -/

@[expose] public section

noncomputable section

namespace Cert.KernelIdeal.Plan

open Cert.KernelIdeal Idealize.ShloMosaic Idealize.ShloMosaic.TcCoe Idealize.SL.Sem

variable {F : FTy → Type} [FloatOps F]

/-- What the run leaves in the first argument. -/
theorem ends_arg0 (m : (ℓ : Loc nD τ sig) → Buf (Elt F) ℓ) (ρ : Dev nD → PrngReg) {r} (h : QC m ρ r) (c : Dev nD) :
    r.2.mem ((c.tc : Thread nD τ).loc main_arg0) = m ((c.tc : Thread nD τ).loc main_arg0) :=
  (h c (0 : Fin 3)).trans (finalA_x m ρ c)

/-- What the run leaves in the second argument. -/
theorem ends_arg1 (m : (ℓ : Loc nD τ sig) → Buf (Elt F) ℓ) (ρ : Dev nD → PrngReg) {r} (h : QC m ρ r) (c : Dev nD) :
    r.2.mem ((c.tc : Thread nD τ).loc main_arg1) = m ((c.tc : Thread nD τ).loc main_arg1) :=
  (h c (1 : Fin 3)).trans (finalA_w m ρ c)

theorem frame_ideal : Cert.quiescent_KernelIdeal := fun m ρ _ =>
  (θ_run Cert.KernelIdeal.defs _ _).mono
    (fun _ h => ⟨fun c => ⟨ends_arg0 m ρ h.1 c, ends_arg1 m ρ h.1 c⟩, h.2⟩) (run_main (F := Ideal) m ρ)

set_option smartUnfolding false in
/-- The two printed forms of the kernel have one text, so read at bit patterns they are one program. -/
theorem bodies_eq : Cert.Kernel.cc0_body (F := Bits) = Cert.KernelIdeal.cc0_body (F := Bits) := rfl
set_option smartUnfolding false in
set_option maxRecDepth 10000 in
theorem defs_eq : Cert.Kernel.defs (F := Bits) = Cert.KernelIdeal.defs (F := Bits) := rfl

theorem frame_kernel : Cert.quiescent_Kernel := fun m ρ _ => by
  rw [defs_eq]
  exact (θ_run Cert.KernelIdeal.defs _ _).mono
    (fun _ h => ⟨fun c => ⟨ends_arg0 m ρ h.1 c, ends_arg1 m ρ h.1 c⟩, h.2⟩) (run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Plan

end
-- ==== Proof.Value.lean ====
module

public import proofs.«01_k».proof.Proof.Frames
public import Idealize.ShloMosaic.Lib.Pipeline.Value
public import Idealize.ShloMosaic.Lib.KernelVsHost
public import Idealize.ShloMosaic.Lib.StackMember
public import Idealize.ShloMosaic.Lib.LayoutAt

/-! # The value of the run over the reals

On device `c` the result's rows `64 o` to `64 o + 63` are device `o`'s block of `x` times the device's block of `w`.
Read at one entry both this and the reference are the sum, over the contracted coordinate, of the products of the
entries of the whole `x` and the whole `w`, and the two entries are the same. -/

@[expose] public section

noncomputable section

namespace Cert.KernelIdeal.Plan

open Cert.KernelIdeal Cert.KernelIdeal.Gen Idealize.ShloMosaic Idealize.ShloMosaic.TcCoe Idealize.SL.Sem
open Idealize.ShloMosaic.ValueIdx

/-! ## The product of two blocks at one entry -/

/-- The product of a block of `x` and a block of `w`, at row `a` and column `b`. -/
theorem prod_apply (x : FVec Ideal S64x1024 .f32) (w : FVec Ideal S1024x64 .f32) (a : Fin 64) (b : Fin 64) :
    prod (F := Ideal) x w (ix2 a b) = ∑ k : Fin 1024, x (ix2 a k) * w (ix2 k b) := by
  have h : prod (F := Ideal) x w = Host.dotGeneral (φ₁ := .f32) (φ₂ := .f32) (DotDims.plain 64 1024 64) none x w := by
    unfold prod k0_pay9 k0_pay8
    dsimp only
    rw [shapeCast_shapeCast, shapeCast_self, shapeCast_self]
    exact matmul_zero_eq_dotGeneral (φ₁ := .f32) (φ₂ := .f32) _ none x w
  rw [h]
  exact StackMember.dotGeneral_plain_apply none x w a b

/-- The reference's product, at row `a` and column `b`. -/
theorem whole_apply (X W : FVec Ideal Cert.ReferenceIdeal.S1024x1024 .f32) (a b : Fin 1024) :
    Host.dotGeneral Cert.ReferenceIdeal.dot_S1024x1024_S1024x1024_S1024x1024_1_0_0_1_n_n none X W (ix2 a b)
      = ∑ k : Fin 1024, X (ix2 a k) * W (ix2 k b) :=
  StackMember.dotGeneral_plain_apply none X W a b

/-! ## The result is its block of the reference's result -/

/-- When every device starts from its block of `X` and its block of `W`, device `c` ends with its block of their product. -/
theorem out_block (X W : FVec Ideal Cert.ReferenceIdeal.S1024x1024 .f32) (c : Fin 16) :
    outAt (F := Ideal) (fun o => Layout.block ⟨2, ![64, 1024]⟩ ⟨2, ![1024, 1024]⟩ 0 16 o X)
        (fun o => Layout.block ⟨2, ![1024, 64]⟩ ⟨2, ![1024, 1024]⟩ 1 16 o W) c
      = Layout.block ⟨2, ![1024, 64]⟩ ⟨2, ![1024, 1024]⟩ 1 16 c
          (Host.dotGeneral Cert.ReferenceIdeal.dot_S1024x1024_S1024x1024_S1024x1024_1_0_0_1_n_n none X W) := by
  funext i
  have h0 : (i 0).val < 1024 := (i 0).isLt
  have h1 : (i 1).val < 64 := (i 1).isLt
  have hc := c.isLt
  have hl : outAt (F := Ideal) (fun o => Layout.block ⟨2, ![64, 1024]⟩ ⟨2, ![1024, 1024]⟩ 0 16 o X)
        (fun o => Layout.block ⟨2, ![1024, 64]⟩ ⟨2, ![1024, 1024]⟩ 1 16 o W) c i
      = prod (F := Ideal) (Layout.block ⟨2, ![64, 1024]⟩ ⟨2, ![1024, 1024]⟩ 0 16 (⟨(i 0).val / 64, by omega⟩ : Fin 16) X)
          (Layout.block ⟨2, ![1024, 64]⟩ ⟨2, ![1024, 1024]⟩ 1 16 c W)
          (ix2 (⟨(i 0).val % 64, Nat.mod_lt _ (by decide)⟩ : Fin 64) (⟨(i 1).val, h1⟩ : Fin 64)) := by
    unfold outAt
    refine congrArg _ (funext fun a => ?_)
    match a with
    | ⟨0, _⟩ => rfl
    | ⟨1, _⟩ => rfl
  rw [hl, prod_apply, Layout.block_apply]
  have hj : Layout.Tiles.idx (S := ⟨2, ![1024, 64]⟩) (T := ⟨2, ![1024, 1024]⟩) (a := 1) (k := 16) (by decide) c i
      = ix2 (⟨(i 0).val, h0⟩ : Fin 1024) (⟨c.val * 64 + (i 1).val, by omega⟩ : Fin 1024) := by
    funext a; apply Fin.ext
    match a with
    | ⟨0, _⟩ => rfl
    | ⟨1, _⟩ => rfl
  rw [hj, whole_apply]
  refine Finset.sum_congr (M := EReal) rfl fun k _ => ?_
  rw [Layout.block_apply, Layout.block_apply]
  refine congrArg₂ (· * ·) (congrArg X ?_) (congrArg W ?_)
  · funext a; apply Fin.ext
    match a with
    | ⟨0, _⟩ => show (i 0).val / 64 * 64 + (i 0).val % 64 = (i 0).val; omega
    | ⟨1, _⟩ => rfl
  · funext a; apply Fin.ext
    match a with
    | ⟨0, _⟩ => rfl
    | ⟨1, _⟩ => rfl

/-! ## What the run leaves -/

section Run

variable (m : (ℓ : Loc nD τ sig) → Buf (Elt Ideal) ℓ) (ρ : Dev nD → PrngReg)

/-- A staged operand is the device's whole argument. -/
theorem xstg_eq (c : Dev nD) : xstg (F := Ideal) m ρ c = m ((c.tc : Thread nD τ).loc main_arg0) :=
  Memref.read_access_unit_zero (Elt Ideal) main_arg0 (funext fun a => by fin_cases a <;> decide) (fun a => by fin_cases a <;> decide) _
theorem wstg_eq (c : Dev nD) : wstg (F := Ideal) m ρ c = m ((c.tc : Thread nD τ).loc main_arg1) :=
  Memref.read_access_unit_zero (Elt Ideal) main_arg1 (funext fun a => by fin_cases a <;> decide) (fun a => by fin_cases a <;> decide) _

/-- The result array ends as what the body left in its staging buffer. -/
theorem finalA_o (c : Dev nD) : finalA m ρ c (2 : Fin 3) = outAt (xstg m ρ) (wstg m ρ) c := by
  have h : (win0_2.blk (0 : Fin 1)).view.read (Elt Ideal) (finalA m ρ c (2 : Fin 3)) = outAt (xstg m ρ) (wstg m ρ) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt Ideal) main_v1 (funext fun a => by fin_cases a <;> decide) (fun a => by fin_cases a <;> decide) _).symm.trans h

end Run

/-- Over the reals, the kernel on its sixteen devices computes the reference's product. -/
theorem algebraic : Cert.algebraic_KernelIdeal_ReferenceIdeal := fun m ρ m' ρ' _ hagree => by
  refine ⟨Host.dotGeneral (F := Ideal) (φ₁ := .f32) (φ₂ := .f32) Cert.ReferenceIdeal.dot_S1024x1024_S1024x1024_S1024x1024_1_0_0_1_n_n none
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono
      (fun _ h c => ⟨(h.1 c (2 : Fin 3)).trans ?_, ends_arg0 m ρ h.1 c, ends_arg1 m ρ h.1 c⟩) (run_main (F := Ideal) m ρ)
    rw [finalA_o, funext (xstg_eq m ρ), funext (wstg_eq m ρ), funext fun o => (hagree o).1, funext fun o => (hagree o).2]
    exact out_block _ _ c
  · exact (θ_run Cert.ReferenceIdeal.defs _ _).mono (fun _ h => h 0) (Cert.ReferenceIdeal.Value.run (F := Ideal) m' ρ')

end Cert.KernelIdeal.Plan

end
-- ==== Proof.lean ====
/-
# 01_k — the certificate's claims

The kernel gathers `x` over sixteen devices, block by block, and multiplies each block by the device's columns of `w`.
`Proof/Launch.lean` runs it once, over any float values; `Proof/Frames.lean` reads the frames off that run, and
`Proof/Value.lean` compares what it leaves, over the reals, with the reference's product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The three frames, the idealization (no rewrite, so nothing to show), and the value. -/
theorem claim : Cert.Claim := ⟨Cert.Kernel.Gen.facts, Cert.KernelIdeal.Gen.facts, Cert.ReferenceIdeal.Gen.facts,
  Cert.KernelIdeal.Plan.frame_kernel, Cert.KernelIdeal.Plan.frame_ideal, Cert.KernelIdeal.Plan.frame_reference, trivial,
  Cert.KernelIdeal.Plan.algebraic⟩

end Cert.Proof

end
